-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x14336 : Shape := ⟨3, ![8, 1, 14336]⟩
abbrev S14336x2048 : Shape := ⟨2, ![14336, 2048]⟩
abbrev S4096x16 : Shape := ⟨2, ![4096, 16]⟩
abbrev S8x448x8x2x2 : Shape := ⟨5, ![8, 448, 8, 2, 2]⟩
abbrev S8x448x2x8x2 : Shape := ⟨5, ![8, 448, 2, 8, 2]⟩
abbrev S8x14336 : Shape := ⟨2, ![8, 14336]⟩
abbrev S16x128x2x16 : Shape := ⟨4, ![16, 128, 2, 16]⟩
abbrev S16x2x16x128 : Shape := ⟨4, ![16, 2, 16, 128]⟩
abbrev S_ : Shape := ⟨0, ![]⟩
abbrev S16x2x1x16x128 : Shape := ⟨5, ![16, 2, 1, 16, 128]⟩
abbrev S16x2x2x16x128 : Shape := ⟨5, ![16, 2, 2, 16, 128]⟩
abbrev S16x2x2x32x128 : Shape := ⟨5, ![16, 2, 2, 32, 128]⟩
abbrev S16x4x32x128 : Shape := ⟨4, ![16, 4, 32, 128]⟩
abbrev S8x4096 : Shape := ⟨2, ![8, 4096]⟩
abbrev S8x1024 : Shape := ⟨2, ![8, 1024]⟩
abbrev S1024x2048 : Shape := ⟨2, ![1024, 2048]⟩
abbrev S1x1x32x128 : Shape := ⟨4, ![1, 1, 32, 128]⟩
abbrev S32x128 : Shape := ⟨2, ![32, 128]⟩
abbrev S8x128 : Shape := ⟨2, ![8, 128]⟩
abbrev S32x128x1 : Shape := ⟨3, ![32, 128, 1]⟩
abbrev S16x128 : Shape := ⟨2, ![16, 128]⟩
abbrev S1024x128 : Shape := ⟨2, ![1024, 128]⟩
abbrev S1024x256 : Shape := ⟨2, ![1024, 256]⟩
abbrev S8x256 : Shape := ⟨2, ![8, 256]⟩
abbrev S8x1x16x2x128 : Shape := ⟨5, ![8, 1, 16, 2, 128]⟩
abbrev S8x1x16x128x2 : Shape := ⟨5, ![8, 1, 16, 128, 2]⟩
abbrev S8x1x4096 : Shape := ⟨3, ![8, 1, 4096]⟩

abbrev nBuf : Space → Nat
  | .hbm => 27
  | .vmem => 6
  | .smem => 0
  | _ => 0

abbrev bufTy : (tb : Table) → Fin (tcTables nBuf tb) → BufTy
  | .hbm, ⟨0, _⟩ => ⟨S8x1x14336, .bf16⟩
  | .hbm, ⟨1, _⟩ => ⟨S14336x2048, .i8⟩
  | .hbm, ⟨2, _⟩ => ⟨S4096x16, .i16⟩
  | .hbm, ⟨3, _⟩ => ⟨S8x448x8x2x2, .bf16⟩
  | .hbm, ⟨4, _⟩ => ⟨S8x448x2x8x2, .bf16⟩
  | .hbm, ⟨5, _⟩ => ⟨S8x14336, .bf16⟩
  | .hbm, ⟨6, _⟩ => ⟨S16x128x2x16, .i16⟩
  | .hbm, ⟨7, _⟩ => ⟨S16x2x16x128, .i16⟩
  | .hbm, ⟨8, _⟩ => ⟨S16x2x16x128, .i32⟩
  | .hbm, ⟨9, _⟩ => ⟨S_, .i32⟩
  | .hbm, ⟨10, _⟩ => ⟨S16x2x16x128, .i32⟩
  | .hbm, ⟨11, _⟩ => ⟨S16x2x16x128, .i32⟩
  | .hbm, ⟨12, _⟩ => ⟨S_, .i32⟩
  | .hbm, ⟨13, _⟩ => ⟨S16x2x16x128, .i32⟩
  | .hbm, ⟨14, _⟩ => ⟨S16x2x16x128, .i32⟩
  | .hbm, ⟨15, _⟩ => ⟨S16x2x1x16x128, .i32⟩
  | .hbm, ⟨16, _⟩ => ⟨S16x2x1x16x128, .i32⟩
  | .hbm, ⟨17, _⟩ => ⟨S16x2x2x16x128, .i32⟩
  | .hbm, ⟨18, _⟩ => ⟨S16x2x2x16x128, .i8⟩
  | .hbm, ⟨19, _⟩ => ⟨S16x2x2x16x128, .i8⟩
  | .hbm, ⟨20, _⟩ => ⟨S16x2x2x32x128, .i8⟩
  | .hbm, ⟨21, _⟩ => ⟨S16x4x32x128, .i8⟩
  | .hbm, ⟨22, _⟩ => ⟨S8x4096, .f32⟩
  | .hbm, ⟨23, _⟩ => ⟨S8x1x16x2x128, .f32⟩
  | .hbm, ⟨24, _⟩ => ⟨S8x1x16x128x2, .f32⟩
  | .hbm, ⟨25, _⟩ => ⟨S8x1x4096, .f32⟩
  | .hbm, ⟨26, _⟩ => ⟨S8x1x4096, .bf16⟩
  | .local _ .vmem, ⟨0, _⟩ => ⟨S8x1024, .bf16⟩
  | .local _ .vmem, ⟨1, _⟩ => ⟨S8x1024, .bf16⟩
  | .local _ .vmem, ⟨2, _⟩ => ⟨S1024x2048, .i8⟩
  | .local _ .vmem, ⟨3, _⟩ => ⟨S1024x2048, .i8⟩
  | .local _ .vmem, ⟨4, _⟩ => ⟨S16x4x32x128, .i8⟩
  | .local _ .vmem, ⟨5, _⟩ => ⟨S8x4096, .f32⟩
  | _, _ => ⟨S8x1x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x4x32x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8x1x14336 : Shape := ⟨3, ![8, 1, 14336]⟩
abbrev S14336x2048 : Shape := ⟨2, ![14336, 2048]⟩
abbrev S4096x16 : Shape := ⟨2, ![4096, 16]⟩
abbrev S_ : Shape := ⟨0, ![]⟩
abbrev S2048x16 : Shape := ⟨2, ![2048, 16]⟩
abbrev S2048x1 : Shape := ⟨2, ![2048, 1]⟩
abbrev S2048 : Shape := ⟨1, ![2048]⟩
abbrev S1x2048 : Shape := ⟨2, ![1, 2048]⟩
abbrev S8x1x2048 : Shape := ⟨3, ![8, 1, 2048]⟩
abbrev S8x1x2048x1 : Shape := ⟨4, ![8, 1, 2048, 1]⟩
abbrev S8x1x2048x2 : Shape := ⟨4, ![8, 1, 2048, 2]⟩
abbrev S8x1x4096 : Shape := ⟨3, ![8, 1, 4096]⟩

abbrev nBuf : Space → Nat
  | .hbm => 251
  | .vmem => 0
  | .smem => 0
  | _ => 0

abbrev hbmTy0_0 (i : Nat) : BufTy := match i % 128 with
  | 0 => ⟨S8x1x14336, .bf16⟩
  | 1 => ⟨S14336x2048, .i8⟩
  | 2 => ⟨S4096x16, .i16⟩
  | 3 => ⟨S4096x16, .bf16⟩
  | 4 => ⟨S14336x2048, .i32⟩
  | 5 => ⟨S_, .i32⟩
  | 6 => ⟨S14336x2048, .i32⟩
  | 7 => ⟨S14336x2048, .i32⟩
  | 8 => ⟨S14336x2048, .i32⟩
  | 9 => ⟨S_, .i32⟩
  | 10 => ⟨S14336x2048, .i32⟩
  | 11 => ⟨S14336x2048, .i32⟩
  | 12 => ⟨S2048x16, .bf16⟩
  | 13 => ⟨S2048x1, .bf16⟩
  | 14 => ⟨S2048, .bf16⟩
  | 15 => ⟨S1x2048, .bf16⟩
  | 16 => ⟨S2048x1, .bf16⟩
  | 17 => ⟨S2048, .bf16⟩
  | 18 => ⟨S1x2048, .bf16⟩
  | 19 => ⟨S2048x1, .bf16⟩
  | 20 => ⟨S2048, .bf16⟩
  | 21 => ⟨S1x2048, .bf16⟩
  | 22 => ⟨S2048x1, .bf16⟩
  | 23 => ⟨S2048, .bf16⟩
  | 24 => ⟨S1x2048, .bf16⟩
  | 25 => ⟨S2048x1, .bf16⟩
  | 26 => ⟨S2048, .bf16⟩
  | 27 => ⟨S1x2048, .bf16⟩
  | 28 => ⟨S2048x1, .bf16⟩
  | 29 => ⟨S2048, .bf16⟩
  | 30 => ⟨S1x2048, .bf16⟩
  | 31 => ⟨S2048x1, .bf16⟩
  | 32 => ⟨S2048, .bf16⟩
  | 33 => ⟨S1x2048, .bf16⟩
  | 34 => ⟨S2048x1, .bf16⟩
  | 35 => ⟨S2048, .bf16⟩
  | 36 => ⟨S1x2048, .bf16⟩
  | 37 => ⟨S2048x1, .bf16⟩
  | 38 => ⟨S2048, .bf16⟩
  | 39 => ⟨S1x2048, .bf16⟩
  | 40 => ⟨S2048x1, .bf16⟩
  | 41 => ⟨S2048, .bf16⟩
  | 42 => ⟨S1x2048, .bf16⟩
  | 43 => ⟨S2048x1, .bf16⟩
  | 44 => ⟨S2048, .bf16⟩
  | 45 => ⟨S1x2048, .bf16⟩
  | 46 => ⟨S2048x1, .bf16⟩
  | 47 => ⟨S2048, .bf16⟩
  | 48 => ⟨S1x2048, .bf16⟩
  | 49 => ⟨S2048x1, .bf16⟩
  | 50 => ⟨S2048, .bf16⟩
  | 51 => ⟨S1x2048, .bf16⟩
  | 52 => ⟨S2048x1, .bf16⟩
  | 53 => ⟨S2048, .bf16⟩
  | 54 => ⟨S1x2048, .bf16⟩
  | 55 => ⟨S2048x1, .bf16⟩
  | 56 => ⟨S2048, .bf16⟩
  | 57 => ⟨S1x2048, .bf16⟩
  | 58 => ⟨S2048x1, .bf16⟩
  | 59 => ⟨S2048, .bf16⟩
  | 60 => ⟨S1x2048, .bf16⟩
  | 61 => ⟨S_, .i32⟩
  | 62 => ⟨S14336x2048, .i32⟩
  | 63 => ⟨S14336x2048, .i32⟩
  | 64 => ⟨S_, .i32⟩
  | 65 => ⟨S14336x2048, .i32⟩
  | 66 => ⟨S14336x2048, .i32⟩
  | 67 => ⟨S_, .i32⟩
  | 68 => ⟨S14336x2048, .i32⟩
  | 69 => ⟨S14336x2048, .i1⟩
  | 70 => ⟨S14336x2048, .bf16⟩
  | 71 => ⟨S14336x2048, .bf16⟩
  | 72 => ⟨S14336x2048, .bf16⟩
  | 73 => ⟨S14336x2048, .bf16⟩
  | 74 => ⟨S14336x2048, .bf16⟩
  | 75 => ⟨S14336x2048, .bf16⟩
  | 76 => ⟨S14336x2048, .bf16⟩
  | 77 => ⟨S14336x2048, .bf16⟩
  | 78 => ⟨S14336x2048, .bf16⟩
  | 79 => ⟨S14336x2048, .bf16⟩
  | 80 => ⟨S14336x2048, .bf16⟩
  | 81 => ⟨S14336x2048, .bf16⟩
  | 82 => ⟨S14336x2048, .bf16⟩
  | 83 => ⟨S14336x2048, .bf16⟩
  | 84 => ⟨S14336x2048, .bf16⟩
  | 85 => ⟨S14336x2048, .bf16⟩
  | 86 => ⟨S14336x2048, .bf16⟩
  | 87 => ⟨S14336x2048, .bf16⟩
  | 88 => ⟨S14336x2048, .bf16⟩
  | 89 => ⟨S14336x2048, .bf16⟩
  | 90 => ⟨S14336x2048, .bf16⟩
  | 91 => ⟨S14336x2048, .bf16⟩
  | 92 => ⟨S14336x2048, .bf16⟩
  | 93 => ⟨S14336x2048, .bf16⟩
  | 94 => ⟨S_, .i32⟩
  | 95 => ⟨S14336x2048, .i32⟩
  | 96 => ⟨S14336x2048, .i32⟩
  | 97 => ⟨S_, .i32⟩
  | 98 => ⟨S14336x2048, .i32⟩
  | 99 => ⟨S14336x2048, .i32⟩
  | 100 => ⟨S_, .i32⟩
  | 101 => ⟨S14336x2048, .i32⟩
  | 102 => ⟨S14336x2048, .i1⟩
  | 103 => ⟨S14336x2048, .bf16⟩
  | 104 => ⟨S14336x2048, .bf16⟩
  | 105 => ⟨S14336x2048, .bf16⟩
  | 106 => ⟨S14336x2048, .bf16⟩
  | 107 => ⟨S_, .i32⟩
  | 108 => ⟨S14336x2048, .i32⟩
  | 109 => ⟨S14336x2048, .i32⟩
  | 110 => ⟨S_, .i32⟩
  | 111 => ⟨S14336x2048, .i32⟩
  | 112 => ⟨S14336x2048, .i32⟩
  | 113 => ⟨S_, .i32⟩
  | 114 => ⟨S14336x2048, .i32⟩
  | 115 => ⟨S14336x2048, .i1⟩
  | 116 => ⟨S14336x2048, .bf16⟩
  | 117 => ⟨S14336x2048, .bf16⟩
  | 118 => ⟨S_, .i32⟩
  | 119 => ⟨S14336x2048, .i32⟩
  | 120 => ⟨S14336x2048, .i32⟩
  | 121 => ⟨S_, .i32⟩
  | 122 => ⟨S14336x2048, .i32⟩
  | 123 => ⟨S14336x2048, .i32⟩
  | 124 => ⟨S_, .i32⟩
  | 125 => ⟨S14336x2048, .i32⟩
  | 126 => ⟨S14336x2048, .i1⟩
  | 127 => ⟨S14336x2048, .bf16⟩
  | _ => ⟨S8x1x14336, .bf16⟩

abbrev hbmTy0_1 (i : Nat) : BufTy := match i % 128 with
  | 0 => ⟨S2048x16, .bf16⟩
  | 1 => ⟨S2048x1, .bf16⟩
  | 2 => ⟨S2048, .bf16⟩
  | 3 => ⟨S1x2048, .bf16⟩
  | 4 => ⟨S2048x1, .bf16⟩
  | 5 => ⟨S2048, .bf16⟩
  | 6 => ⟨S1x2048, .bf16⟩
  | 7 => ⟨S2048x1, .bf16⟩
  | 8 => ⟨S2048, .bf16⟩
  | 9 => ⟨S1x2048, .bf16⟩
  | 10 => ⟨S2048x1, .bf16⟩
  | 11 => ⟨S2048, .bf16⟩
  | 12 => ⟨S1x2048, .bf16⟩
  | 13 => ⟨S2048x1, .bf16⟩
  | 14 => ⟨S2048, .bf16⟩
  | 15 => ⟨S1x2048, .bf16⟩
  | 16 => ⟨S2048x1, .bf16⟩
  | 17 => ⟨S2048, .bf16⟩
  | 18 => ⟨S1x2048, .bf16⟩
  | 19 => ⟨S2048x1, .bf16⟩
  | 20 => ⟨S2048, .bf16⟩
  | 21 => ⟨S1x2048, .bf16⟩
  | 22 => ⟨S2048x1, .bf16⟩
  | 23 => ⟨S2048, .bf16⟩
  | 24 => ⟨S1x2048, .bf16⟩
  | 25 => ⟨S2048x1, .bf16⟩
  | 26 => ⟨S2048, .bf16⟩
  | 27 => ⟨S1x2048, .bf16⟩
  | 28 => ⟨S2048x1, .bf16⟩
  | 29 => ⟨S2048, .bf16⟩
  | 30 => ⟨S1x2048, .bf16⟩
  | 31 => ⟨S2048x1, .bf16⟩
  | 32 => ⟨S2048, .bf16⟩
  | 33 => ⟨S1x2048, .bf16⟩
  | 34 => ⟨S2048x1, .bf16⟩
  | 35 => ⟨S2048, .bf16⟩
  | 36 => ⟨S1x2048, .bf16⟩
  | 37 => ⟨S2048x1, .bf16⟩
  | 38 => ⟨S2048, .bf16⟩
  | 39 => ⟨S1x2048, .bf16⟩
  | 40 => ⟨S2048x1, .bf16⟩
  | 41 => ⟨S2048, .bf16⟩
  | 42 => ⟨S1x2048, .bf16⟩
  | 43 => ⟨S2048x1, .bf16⟩
  | 44 => ⟨S2048, .bf16⟩
  | 45 => ⟨S1x2048, .bf16⟩
  | 46 => ⟨S2048x1, .bf16⟩
  | 47 => ⟨S2048, .bf16⟩
  | 48 => ⟨S1x2048, .bf16⟩
  | 49 => ⟨S_, .i32⟩
  | 50 => ⟨S14336x2048, .i32⟩
  | 51 => ⟨S14336x2048, .i32⟩
  | 52 => ⟨S_, .i32⟩
  | 53 => ⟨S14336x2048, .i32⟩
  | 54 => ⟨S14336x2048, .i32⟩
  | 55 => ⟨S_, .i32⟩
  | 56 => ⟨S14336x2048, .i32⟩
  | 57 => ⟨S14336x2048, .i1⟩
  | 58 => ⟨S14336x2048, .bf16⟩
  | 59 => ⟨S14336x2048, .bf16⟩
  | 60 => ⟨S14336x2048, .bf16⟩
  | 61 => ⟨S14336x2048, .bf16⟩
  | 62 => ⟨S14336x2048, .bf16⟩
  | 63 => ⟨S14336x2048, .bf16⟩
  | 64 => ⟨S14336x2048, .bf16⟩
  | 65 => ⟨S14336x2048, .bf16⟩
  | 66 => ⟨S14336x2048, .bf16⟩
  | 67 => ⟨S14336x2048, .bf16⟩
  | 68 => ⟨S14336x2048, .bf16⟩
  | 69 => ⟨S14336x2048, .bf16⟩
  | 70 => ⟨S14336x2048, .bf16⟩
  | 71 => ⟨S14336x2048, .bf16⟩
  | 72 => ⟨S14336x2048, .bf16⟩
  | 73 => ⟨S14336x2048, .bf16⟩
  | 74 => ⟨S14336x2048, .bf16⟩
  | 75 => ⟨S14336x2048, .bf16⟩
  | 76 => ⟨S14336x2048, .bf16⟩
  | 77 => ⟨S14336x2048, .bf16⟩
  | 78 => ⟨S14336x2048, .bf16⟩
  | 79 => ⟨S14336x2048, .bf16⟩
  | 80 => ⟨S14336x2048, .bf16⟩
  | 81 => ⟨S14336x2048, .bf16⟩
  | 82 => ⟨S_, .i32⟩
  | 83 => ⟨S14336x2048, .i32⟩
  | 84 => ⟨S14336x2048, .i32⟩
  | 85 => ⟨S_, .i32⟩
  | 86 => ⟨S14336x2048, .i32⟩
  | 87 => ⟨S14336x2048, .i32⟩
  | 88 => ⟨S_, .i32⟩
  | 89 => ⟨S14336x2048, .i32⟩
  | 90 => ⟨S14336x2048, .i1⟩
  | 91 => ⟨S14336x2048, .bf16⟩
  | 92 => ⟨S14336x2048, .bf16⟩
  | 93 => ⟨S14336x2048, .bf16⟩
  | 94 => ⟨S14336x2048, .bf16⟩
  | 95 => ⟨S_, .i32⟩
  | 96 => ⟨S14336x2048, .i32⟩
  | 97 => ⟨S14336x2048, .i32⟩
  | 98 => ⟨S_, .i32⟩
  | 99 => ⟨S14336x2048, .i32⟩
  | 100 => ⟨S14336x2048, .i32⟩
  | 101 => ⟨S_, .i32⟩
  | 102 => ⟨S14336x2048, .i32⟩
  | 103 => ⟨S14336x2048, .i1⟩
  | 104 => ⟨S14336x2048, .bf16⟩
  | 105 => ⟨S14336x2048, .bf16⟩
  | 106 => ⟨S_, .i32⟩
  | 107 => ⟨S14336x2048, .i32⟩
  | 108 => ⟨S14336x2048, .i32⟩
  | 109 => ⟨S_, .i32⟩
  | 110 => ⟨S14336x2048, .i32⟩
  | 111 => ⟨S14336x2048, .i32⟩
  | 112 => ⟨S_, .i32⟩
  | 113 => ⟨S14336x2048, .i32⟩
  | 114 => ⟨S14336x2048, .i1⟩
  | 115 => ⟨S14336x2048, .bf16⟩
  | 116 => ⟨S8x1x2048, .f32⟩
  | 117 => ⟨S8x1x2048, .f32⟩
  | 118 => ⟨S8x1x2048x1, .f32⟩
  | 119 => ⟨S8x1x2048x1, .f32⟩
  | 120 => ⟨S8x1x2048x2, .f32⟩
  | 121 => ⟨S8x1x4096, .f32⟩
  | 122 => ⟨S8x1x4096, .bf16⟩
  | _ => ⟨S8x1x14336, .bf16⟩

abbrev hbmTy (i : Nat) : BufTy := match i / 128 with
  | 0 => hbmTy0_0 i
  | 1 => hbmTy0_1 i
  | _ => ⟨S8x1x14336, .bf16⟩

abbrev bufTy : (tb : Table) → Fin (tcTables nBuf tb) → BufTy
  | .hbm, ⟨i, _⟩ => hbmTy i
  | _, _ => ⟨S8x1x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_c_1 : Ref sig .tc := ⟨.hbm, 61, rfl⟩
abbrev main_v56 : Ref sig .tc := ⟨.hbm, 62, rfl⟩
abbrev main_v57 : Ref sig .tc := ⟨.hbm, 63, rfl⟩
abbrev main_c_2 : Ref sig .tc := ⟨.hbm, 64, rfl⟩
abbrev main_v58 : Ref sig .tc := ⟨.hbm, 65, rfl⟩
abbrev main_v59 : Ref sig .tc := ⟨.hbm, 66, rfl⟩
abbrev main_c_3 : Ref sig .tc := ⟨.hbm, 67, rfl⟩
abbrev main_v60 : Ref sig .tc := ⟨.hbm, 68, rfl⟩
abbrev main_v61 : Ref sig .tc := ⟨.hbm, 69, rfl⟩
abbrev main_call0_v0 : Ref sig .tc := ⟨.hbm, 70, rfl⟩
abbrev main_call0_v1 : Ref sig .tc := ⟨.hbm, 71, rfl⟩
abbrev main_v62 : Ref sig .tc := ⟨.hbm, 72, rfl⟩
abbrev main_call1_v0 : Ref sig .tc := ⟨.hbm, 73, rfl⟩
abbrev main_call1_v1 : Ref sig .tc := ⟨.hbm, 74, rfl⟩
abbrev main_v63 : Ref sig .tc := ⟨.hbm, 75, rfl⟩
abbrev main_call2_v0 : Ref sig .tc := ⟨.hbm, 76, rfl⟩
abbrev main_call2_v1 : Ref sig .tc := ⟨.hbm, 77, rfl⟩
abbrev main_v64 : Ref sig .tc := ⟨.hbm, 78, rfl⟩
abbrev main_call3_v0 : Ref sig .tc := ⟨.hbm, 79, rfl⟩
abbrev main_call3_v1 : Ref sig .tc := ⟨.hbm, 80, rfl⟩
abbrev main_v65 : Ref sig .tc := ⟨.hbm, 81, rfl⟩
abbrev main_call4_v0 : Ref sig .tc := ⟨.hbm, 82, rfl⟩
abbrev main_call4_v1 : Ref sig .tc := ⟨.hbm, 83, rfl⟩
abbrev main_v66 : Ref sig .tc := ⟨.hbm, 84, rfl⟩
abbrev main_call5_v0 : Ref sig .tc := ⟨.hbm, 85, rfl⟩
abbrev main_call5_v1 : Ref sig .tc := ⟨.hbm, 86, rfl⟩
abbrev main_v67 : Ref sig .tc := ⟨.hbm, 87, rfl⟩
abbrev main_call6_v0 : Ref sig .tc := ⟨.hbm, 88, rfl⟩
abbrev main_call6_v1 : Ref sig .tc := ⟨.hbm, 89, rfl⟩
abbrev main_v68 : Ref sig .tc := ⟨.hbm, 90, rfl⟩
abbrev main_call7_v0 : Ref sig .tc := ⟨.hbm, 91, rfl⟩
abbrev main_call7_v1 : Ref sig .tc := ⟨.hbm, 92, rfl⟩
abbrev main_v69 : Ref sig .tc := ⟨.hbm, 93, rfl⟩
abbrev main_c_4 : Ref sig .tc := ⟨.hbm, 94, rfl⟩
abbrev main_v70 : Ref sig .tc := ⟨.hbm, 95, rfl⟩
abbrev main_v71 : Ref sig .tc := ⟨.hbm, 96, rfl⟩
abbrev main_c_5 : Ref sig .tc := ⟨.hbm, 97, rfl⟩
abbrev main_v72 : Ref sig .tc := ⟨.hbm, 98, rfl⟩
abbrev main_v73 : Ref sig .tc := ⟨.hbm, 99, rfl⟩
abbrev main_c_6 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_7 : Ref sig .tc := ⟨.hbm, 107, rfl⟩
abbrev main_v80 : Ref sig .tc := ⟨.hbm, 108, rfl⟩
abbrev main_v81 : Ref sig .tc := ⟨.hbm, 109, rfl⟩
abbrev main_c_8 : Ref sig .tc := ⟨.hbm, 110, rfl⟩
abbrev main_v82 : Ref sig .tc := ⟨.hbm, 111, rfl⟩
abbrev main_v83 : Ref sig .tc := ⟨.hbm, 112, rfl⟩
abbrev main_c_9 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_10 : Ref sig .tc := ⟨.hbm, 118, rfl⟩
abbrev main_v88 : Ref sig .tc := ⟨.hbm, 119, rfl⟩
abbrev main_v89 : Ref sig .tc := ⟨.hbm, 120, rfl⟩
abbrev main_c_11 : Ref sig .tc := ⟨.hbm, 121, rfl⟩
abbrev main_v90 : Ref sig .tc := ⟨.hbm, 122, rfl⟩
abbrev main_v91 : Ref sig .tc := ⟨.hbm, 123, rfl⟩
abbrev main_c_12 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_c_13 : Ref sig .tc := ⟨.hbm, 177, rfl⟩
abbrev main_v144 : Ref sig .tc := ⟨.hbm, 178, rfl⟩
abbrev main_v145 : Ref sig .tc := ⟨.hbm, 179, rfl⟩
abbrev main_c_14 : Ref sig .tc := ⟨.hbm, 180, rfl⟩
abbrev main_v146 : Ref sig .tc := ⟨.hbm, 181, rfl⟩
abbrev main_v147 : Ref sig .tc := ⟨.hbm, 182, rfl⟩
abbrev main_c_15 : Ref sig .tc := ⟨.hbm, 183, rfl⟩
abbrev main_v148 : Ref sig .tc := ⟨.hbm, 184, rfl⟩
abbrev main_v149 : Ref sig .tc := ⟨.hbm, 185, rfl⟩
abbrev main_call15_v0 : Ref sig .tc := ⟨.hbm, 186, rfl⟩
abbrev main_call15_v1 : Ref sig .tc := ⟨.hbm, 187, rfl⟩
abbrev main_v150 : Ref sig .tc := ⟨.hbm, 188, rfl⟩
abbrev main_call16_v0 : Ref sig .tc := ⟨.hbm, 189, rfl⟩
abbrev main_call16_v1 : Ref sig .tc := ⟨.hbm, 190, rfl⟩
abbrev main_v151 : Ref sig .tc := ⟨.hbm, 191, rfl⟩
abbrev main_call17_v0 : Ref sig .tc := ⟨.hbm, 192, rfl⟩
abbrev main_call17_v1 : Ref sig .tc := ⟨.hbm, 193, rfl⟩
abbrev main_v152 : Ref sig .tc := ⟨.hbm, 194, rfl⟩
abbrev main_call18_v0 : Ref sig .tc := ⟨.hbm, 195, rfl⟩
abbrev main_call18_v1 : Ref sig .tc := ⟨.hbm, 196, rfl⟩
abbrev main_v153 : Ref sig .tc := ⟨.hbm, 197, rfl⟩
abbrev main_call19_v0 : Ref sig .tc := ⟨.hbm, 198, rfl⟩
abbrev main_call19_v1 : Ref sig .tc := ⟨.hbm, 199, rfl⟩
abbrev main_v154 : Ref sig .tc := ⟨.hbm, 200, rfl⟩
abbrev main_call20_v0 : Ref sig .tc := ⟨.hbm, 201, rfl⟩
abbrev main_call20_v1 : Ref sig .tc := ⟨.hbm, 202, rfl⟩
abbrev main_v155 : Ref sig .tc := ⟨.hbm, 203, rfl⟩
abbrev main_call21_v0 : Ref sig .tc := ⟨.hbm, 204, rfl⟩
abbrev main_call21_v1 : Ref sig .tc := ⟨.hbm, 205, rfl⟩
abbrev main_v156 : Ref sig .tc := ⟨.hbm, 206, rfl⟩
abbrev main_call22_v0 : Ref sig .tc := ⟨.hbm, 207, rfl⟩
abbrev main_call22_v1 : Ref sig .tc := ⟨.hbm, 208, rfl⟩
abbrev main_v157 : Ref sig .tc := ⟨.hbm, 209, rfl⟩
abbrev main_c_16 : Ref sig .tc := ⟨.hbm, 210, rfl⟩
abbrev main_v158 : Ref sig .tc := ⟨.hbm, 211, rfl⟩
abbrev main_v159 : Ref sig .tc := ⟨.hbm, 212, rfl⟩
abbrev main_c_17 : Ref sig .tc := ⟨.hbm, 213, rfl⟩
abbrev main_v160 : Ref sig .tc := ⟨.hbm, 214, rfl⟩
abbrev main_v161 : Ref sig .tc := ⟨.hbm, 215, rfl⟩
abbrev main_c_18 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_c_19 : Ref sig .tc := ⟨.hbm, 223, rfl⟩
abbrev main_v168 : Ref sig .tc := ⟨.hbm, 224, rfl⟩
abbrev main_v169 : Ref sig .tc := ⟨.hbm, 225, rfl⟩
abbrev main_c_20 : Ref sig .tc := ⟨.hbm, 226, rfl⟩
abbrev main_v170 : Ref sig .tc := ⟨.hbm, 227, rfl⟩
abbrev main_v171 : Ref sig .tc := ⟨.hbm, 228, rfl⟩
abbrev main_c_21 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_c_22 : Ref sig .tc := ⟨.hbm, 234, rfl⟩
abbrev main_v176 : Ref sig .tc := ⟨.hbm, 235, rfl⟩
abbrev main_v177 : Ref sig .tc := ⟨.hbm, 236, rfl⟩
abbrev main_c_23 : Ref sig .tc := ⟨.hbm, 237, rfl⟩
abbrev main_v178 : Ref sig .tc := ⟨.hbm, 238, rfl⟩
abbrev main_v179 : Ref sig .tc := ⟨.hbm, 239, rfl⟩
abbrev main_c_24 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩

abbrev nD : Nat := 1
abbrev τ : Topo := Topo.v7x

variable {F : FTy → Type} [FloatOps F]
-- ==== Proof.Decode.lean ====
/-
  Hand-written. One group of 32 packed rows decoded: what the kernel's word arithmetic gives, element by element.
  A word of four 4-bit codes (one per byte) selects from a table of low bytes and a table of high bytes; the selected bytes
  are joined two by two into the 16-bit patterns of the weights.
-/
module

public import proofs.«01_k».proof.Proof.Gen.KernelIdeal
public import Idealize.ShloMosaic.Lib.BitcastPair
public import Idealize.ShloMosaic.Lib.Pipeline.Value
public import Idealize.ShloMosaic.Lib.Pointwise

@[expose] public section

set_option maxRecDepth 16384

noncomputable section

namespace Cert.Proof

open Idealize.ShloMosaic Cert.KernelIdeal Cert.KernelIdeal.Facts₀

variable {F : FTy → Type} [FloatOps F]

/-! ## The kernel's operations on one group -/

/-- The low four bits of each byte of 32 packed rows, as words. -/
def loCodes (w : IVec S32x128 8) : IVec S8x128 32 :=
  andi (bitcast S8x128 32 w bitcasts_S32x128_w8_S8x128_w32) (broadcast S8x128 252645135#32)

/-- The high four bits of each byte of 32 packed rows, as words. -/
def hiCodes (w : IVec S32x128 8) : IVec S8x128 32 :=
  andi (shrui (bitcast S8x128 32 w bitcasts_S32x128_w8_S8x128_w32) (broadcast S8x128 4#32)) (broadcast S8x128 252645135#32)

/-- The bytes that the codes select from the table, four to a word. -/
def pick (T : IVec S32x128 8) (c : IVec S8x128 32) : IVec S8x128 32 :=
  bitcast S8x128 32
    (dynamicGather 0 T (shapeCast S32x128 (shapeCast S32x128x1
      (extsi 32 (bitcast S32x128 8 c bitcasts_S8x128_w32_S32x128_w8) natLt_8_32) shapeCasts_S32x128_S32x128x1) shapeCasts_S32x128x1_S32x128))
    bitcasts_S32x128_w8_S8x128_w32

/-- The weights of the even rows of a group, from the low-byte and the high-byte table. -/
def evenRows (T0 T1 : IVec S32x128 8) (c : IVec S8x128 32) : FVec F S16x128 .bf16 :=
  bitcastToFloat .bf16 (bitcast S16x128 16
    (ori (andi (pick T0 c) (broadcast S8x128 16711935#32))
      (shli (andi (pick T1 c) (broadcast S8x128 16711935#32)) (broadcast S8x128 8#32))) bitcasts_S8x128_w32_S16x128_w16)

/-- The weights of the odd rows of a group. -/
def oddRows (T0 T1 : IVec S32x128 8) (c : IVec S8x128 32) : FVec F S16x128 .bf16 :=
  bitcastToFloat .bf16 (bitcast S16x128 16
    (ori (andi (shrui (pick T0 c) (broadcast S8x128 8#32)) (broadcast S8x128 16711935#32))
      (andi (pick T1 c) (broadcast S8x128 4278255360#32))) bitcasts_S8x128_w32_S16x128_w16)

/-! ## The same at an index -/

/-- A matrix of words read at another width, at a bit. -/
theorem bitcast_bit {v w : Nat} {R r n : Nat} (x : (⟨2, ![R, n]⟩ : Shape).Idx → BitVec v)
    (h : (⟨2, ![R, n]⟩ : Shape).Bitcasts v ⟨2, ![r, n]⟩ w) (a : Fin r) (l : Fin n) (q : Nat) (hq : q < w) (hv : 0 < v) (p : Fin R)
    (hp : p.val = (a.val * w + q) / v) :
    (bitcast ⟨2, ![r, n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- The mask `0x0F0F0F0F` keeps the low four bits of each byte. -/
theorem bit_0F (q : Nat) (hq : q < 32) : (252645135#32 : BitVec 32).getLsbD q = decide (q % 8 < 4) := by
  interval_cases q <;> rfl

/-- The mask `0x00FF00FF` keeps the low byte of each half. -/
theorem bit_00FF (q : Nat) (hq : q < 32) : (16711935#32 : BitVec 32).getLsbD q = decide (q % 16 < 8) := by
  interval_cases q <;> rfl

/-- The mask `0xFF00FF00` keeps the high byte of each half. -/
theorem bit_FF00 (q : Nat) (hq : q < 32) : (4278255360#32 : BitVec 32).getLsbD q = decide (8 ≤ q % 16) := by
  interval_cases q <;> rfl

theorem bit_15 (q : Nat) (hq : q < 8) : (15#8 : BitVec 8).getLsbD q = decide (q < 4) := by
  interval_cases q <;> rfl

/-- The low codes as bytes. -/
theorem loCodes_apply (w : IVec S32x128 8) (r : Fin 32) (l : Fin 128) :
    bitcast S32x128 8 (loCodes w) bitcasts_S8x128_w32_S32x128_w8 (ix2 r l) = w (ix2 r l) &&& 15#8 := by
  apply BitVec.eq_of_getLsbD_eq
  intro q hq
  have hr := r.isLt
  rw [bitcast_bit (loCodes w) _ r l q hq (by decide) ⟨(r.val * 8 + q) / 32, by omega⟩ rfl]
  show ((bitcast S8x128 32 w _ _) &&& _).getLsbD _ = _
  rw [BitVec.getLsbD_and, BitVec.getLsbD_and, bit_15 q hq]
  show (_ && (252645135#32 : BitVec 32).getLsbD _) = _
  rw [bit_0F _ (by omega), bitcast_bit w _ _ l _ (by omega) (by decide) r (by simp only []; omega)]
  congr 2
  · show ((r.val * 8 + q) / 32 * 32 + (r.val * 8 + q) % 32) % 8 = q; omega
  · rw [show (r.val * 8 + q) % 32 % 8 = q by omega]

/-- The high codes as bytes. -/
theorem hiCodes_apply (w : IVec S32x128 8) (r : Fin 32) (l : Fin 128) :
    bitcast S32x128 8 (hiCodes w) bitcasts_S8x128_w32_S32x128_w8 (ix2 r l) = w (ix2 r l) >>> 4 := by
  apply BitVec.eq_of_getLsbD_eq
  intro q hq
  have hr := r.isLt
  rw [bitcast_bit (hiCodes w) _ r l q hq (by decide) ⟨(r.val * 8 + q) / 32, by omega⟩ rfl]
  show (((bitcast S8x128 32 w _ _) >>> (4#32 : BitVec 32)) &&& _).getLsbD _ = _
  rw [BitVec.getLsbD_and]
  show (_ && (252645135#32 : BitVec 32).getLsbD _) = _
  rw [bit_0F _ (by omega)]
  rw [show ((4#32 : BitVec 32)) = BitVec.ofNat 32 4 from rfl, BitVec.ushiftRight_eq', BitVec.getLsbD_ushiftRight, BitVec.getLsbD_ushiftRight]
  simp only [BitVec.toNat_ofNat, Nat.reducePow, Nat.reduceMod]
  by_cases h4 : (r.val * 8 + q) % 32 % 8 < 4
  · rw [bitcast_bit w _ _ l _ (by omega) (by decide) r (by simp only []; omega)]
    rw [decide_eq_true h4, Bool.and_true]
    congr 1
    simp only []; omega
  · rw [decide_eq_false h4, Bool.and_false, BitVec.getLsbD_of_ge _ _ (by omega)]

/-- The row of the table that a byte selects. -/
def row32 (b : BitVec 8) : Fin 32 := ⟨b.toNat % 32, Nat.mod_lt _ (by decide)⟩

theorem signExtend_mod (b : BitVec 8) : (b.signExtend 32).toNat % 32 = b.toNat % 32 := by
  rw [BitVec.toNat_signExtend, BitVec.toNat_setWidth]
  have := b.isLt
  split <;> omega

/-- The bytes that codes select, read back as bytes. -/
theorem gather_apply (T : IVec S32x128 8) (c : IVec S32x128 8) (r : Fin 32) (l : Fin 128) :
    dynamicGather 0 T (shapeCast S32x128 (shapeCast S32x128x1
      (extsi 32 c natLt_8_32) shapeCasts_S32x128_S32x128x1) shapeCasts_S32x128x1_S32x128) (ix2 r l)
      = T (ix2 (row32 (c (ix2 r l))) l) := by
  pointwise [row32]
  simp only [signExtend_mod]

/-- The word at an even row: the two selected bytes of byte row `2 r`, the high byte on top. -/
theorem evenRows_apply (T0 T1 : IVec S32x128 8) (c : IVec S8x128 32) (r : Fin 16) (l : Fin 128) (k : Fin 32)
    (hk : row32 (bitcast S32x128 8 c bitcasts_S8x128_w32_S32x128_w8 (ix2 (⟨2 * r.val, by omega⟩ : Fin 32) l)) = k) :
    evenRows (F := F) T0 T1 c (ix2 r l) = FloatOps.ofBits .bf16 (T1 (ix2 k l) ++ T0 (ix2 k l)) := by
  have hr := r.isLt
  show FloatOps.ofBits .bf16 (bitcast S16x128 16 _ _ (ix2 r l)) = _
  congr 1
  apply BitVec.eq_of_getLsbD_eq
  intro q hq
  change q < 16 at hq
  rw [bitcast_bit _ _ r l q hq (by decide) ⟨(r.val * 16 + q) / 32, by omega⟩ rfl]
  show (((pick T0 c (ix2 _ l)) &&& (16711935#32 : BitVec 32)) ||| (((pick T1 c (ix2 _ l)) &&& (16711935#32 : BitVec 32)) <<< (8#32 : BitVec 32))).getLsbD _ = _
  rw [BitVec.getLsbD_or, BitVec.getLsbD_and, BitVec.shiftLeft_eq', BitVec.getLsbD_shiftLeft, BitVec.getLsbD_and,
    bit_00FF _ (by omega), BitVec.getLsbD_append]
  simp only [BitVec.toNat_ofNat, Nat.reducePow, Nat.reduceMod]
  unfold pick
  by_cases h8 : q < 8
  · rw [if_pos h8, bitcast_bit _ _ _ l _ (by omega) (by decide) (⟨2 * r.val, by omega⟩ : Fin 32) (by simp only []; omega), gather_apply, hk]
    have e1 : (r.val * 16 + q) % 32 % 16 < 8 := by omega
    have e2 : ¬ ((r.val * 16 + q) % 32 - 8) % 16 < 8 ∨ (r.val * 16 + q) % 32 < 8 := by omega
    have e3 : ((r.val * 16 + q) / 32 * 32 + (r.val * 16 + q) % 32) % 8 = q := by omega
    rw [decide_eq_true e1, Bool.and_true, show ((⟨(r.val * 16 + q) / 32, by omega⟩ : Fin 8).val * 32 + (r.val * 16 + q) % 32) % 8 = q from e3]
    rcases e2 with e2 | e2
    · by_cases e4 : (r.val * 16 + q) % 32 < 8
      · rw [decide_eq_true e4]; simp
      · rw [bit_00FF _ (by omega), decide_eq_false e2, Bool.and_false, Bool.and_false, Bool.or_false]
    · rw [decide_eq_true e2]; simp
  · rw [if_neg h8]
    have e1 : ¬ (r.val * 16 + q) % 32 % 16 < 8 := by omega
    have e2 : ((r.val * 16 + q) % 32 - 8) % 16 < 8 := by omega
    have e3 : ¬ (r.val * 16 + q) % 32 < 8 := by omega
    have e4 : (r.val * 16 + q) % 32 < 32 := by omega
    have e5 : ((r.val * 16 + q) / 32 * 32 + ((r.val * 16 + q) % 32 - 8)) % 8 = q - 8 := by omega
    rw [decide_eq_false e1, decide_eq_false e3, decide_eq_true e4, Bool.and_false, Bool.false_or, Bool.not_false, Bool.true_and, Bool.true_and,
      bit_00FF _ (by omega), decide_eq_true e2, Bool.and_true,
      bitcast_bit _ _ _ l _ (by omega) (by decide) (⟨2 * r.val, by omega⟩ : Fin 32) (by show 2 * r.val = ((r.val * 16 + q) / 32 * 32 + ((r.val * 16 + q) % 32 - 8)) / 8; omega), gather_apply, hk]
    exact congrArg _ e5

/-- The word at an odd row: the two selected bytes of byte row `2 r + 1`. -/
theorem oddRows_apply (T0 T1 : IVec S32x128 8) (c : IVec S8x128 32) (r : Fin 16) (l : Fin 128) (k : Fin 32)
    (hk : row32 (bitcast S32x128 8 c bitcasts_S8x128_w32_S32x128_w8 (ix2 (⟨2 * r.val + 1, by omega⟩ : Fin 32) l)) = k) :
    oddRows (F := F) T0 T1 c (ix2 r l) = FloatOps.ofBits .bf16 (T1 (ix2 k l) ++ T0 (ix2 k l)) := by
  have hr := r.isLt
  show FloatOps.ofBits .bf16 (bitcast S16x128 16 _ _ (ix2 r l)) = _
  congr 1
  apply BitVec.eq_of_getLsbD_eq
  intro q hq
  change q < 16 at hq
  rw [bitcast_bit _ _ r l q hq (by decide) ⟨(r.val * 16 + q) / 32, by omega⟩ rfl]
  show (((pick T0 c (ix2 _ l) >>> (8#32 : BitVec 32)) &&& (16711935#32 : BitVec 32)) ||| ((pick T1 c (ix2 _ l)) &&& (4278255360#32 : BitVec 32))).getLsbD _ = _
  rw [BitVec.getLsbD_or, BitVec.getLsbD_and, BitVec.ushiftRight_eq', BitVec.getLsbD_ushiftRight, BitVec.getLsbD_and,
    bit_00FF _ (by omega), bit_FF00 _ (by omega), BitVec.getLsbD_append]
  simp only [BitVec.toNat_ofNat, Nat.reducePow, Nat.reduceMod]
  unfold pick
  by_cases h8 : q < 8
  · rw [if_pos h8, bitcast_bit _ _ _ l (8 + _) (by omega) (by decide) (⟨2 * r.val + 1, by omega⟩ : Fin 32) (by simp only []; omega), gather_apply, hk]
    have e1 : (r.val * 16 + q) % 32 % 16 < 8 := by omega
    have e2 : ¬ 8 ≤ (r.val * 16 + q) % 32 % 16 := by omega
    have e3 : ((r.val * 16 + q) / 32 * 32 + (8 + (r.val * 16 + q) % 32)) % 8 = q := by omega
    rw [decide_eq_true e1, decide_eq_false e2, Bool.and_false, Bool.or_false, Bool.and_true]
    exact congrArg _ e3
  · rw [if_neg h8]
    have e1 : ¬ (r.val * 16 + q) % 32 % 16 < 8 := by omega
    have e2 : 8 ≤ (r.val * 16 + q) % 32 % 16 := by omega
    have e3 : ((r.val * 16 + q) / 32 * 32 + (r.val * 16 + q) % 32) % 8 = q - 8 := by omega
    rw [decide_eq_false e1, decide_eq_true e2, Bool.and_false, Bool.false_or, Bool.and_true,
      bitcast_bit _ _ _ l _ (by omega) (by decide) (⟨2 * r.val + 1, by omega⟩ : Fin 32) (by show 2 * r.val + 1 = ((r.val * 16 + q) / 32 * 32 + (r.val * 16 + q) % 32) / 8; omega), gather_apply, hk]
    exact congrArg _ e3

/-! ## All the groups of a block, one under another -/

/-- The rows of 32 groups: of each group its even rows, then its odd rows. -/
def rowsOf (T0 T1 : IVec S32x128 8) (c : Fin 32 → IVec S8x128 32) (g : Fin 64) : FVec F S16x128 .bf16 :=
  if g.val % 2 = 0 then evenRows T0 T1 (c ⟨g.val / 2, by omega⟩) else oddRows T0 T1 (c ⟨g.val / 2, by omega⟩)

/-- The weights of a block for one half of its columns. -/
def colsOf (T0 T1 : IVec S32x128 8) (c : Fin 32 → IVec S8x128 32) : FVec F S1024x128 .bf16 :=
  concatenate S1024x128 0 (List.ofFn fun g : Fin 64 => (⟨S16x128, rowsOf (F := F) T0 T1 c g⟩ : (s : Shape) × (s.Idx → F .bf16)))
    concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S1024x128_d0

/-- Row `j` of the weights of a block decodes the packed row `32 (j / 32) + 2 (j % 16) + (j / 16) % 2`. -/
theorem colsOf_apply (T0 T1 : IVec S32x128 8) (c : Fin 32 → IVec S8x128 32) (j : Fin 1024) (l : Fin 128) (k : Fin 32)
    (hk : row32 (bitcast S32x128 8 (c ⟨j.val / 32, by omega⟩) bitcasts_S8x128_w32_S32x128_w8
      (ix2 (⟨2 * (j.val % 16) + j.val / 16 % 2, by omega⟩ : Fin 32) l)) = k) :
    colsOf (F := F) T0 T1 c (ix2 j l) = FloatOps.ofBits .bf16 (T1 (ix2 k l) ++ T0 (ix2 k l)) := by
  have hj := j.isLt
  unfold colsOf
  refine (concatenate_ofFn_apply (t := S1024x128) (s₁ := S16x128) 0 _ _ rfl 16 rfl (ix2 j l) ⟨j.val / 16, by omega⟩ rfl (ix2 ⟨j.val % 16, by omega⟩ l) rfl
    (fun b hb => by match b with | ⟨0, _⟩ => exact absurd rfl hb | ⟨1, _⟩ => rfl)).trans ?_
  unfold rowsOf
  have e : j.val / 16 / 2 = j.val / 32 := by omega
  split
  · next h =>
    refine evenRows_apply T0 T1 _ _ l k ?_
    simp only [e]; rw [← hk]; congr 3; apply Fin.ext; show 2 * (j.val % 16) = 2 * (j.val % 16) + j.val / 16 % 2; simp only [] at h; omega
  · next h =>
    refine oddRows_apply T0 T1 _ _ l k ?_
    simp only [e]; rw [← hk]; congr 3; apply Fin.ext; show 2 * (j.val % 16) + 1 = 2 * (j.val % 16) + j.val / 16 % 2; simp only [] at h; omega

end Cert.Proof

end
-- ==== Proof.Block.lean ====
/-
  Hand-written. What one grid point adds to one block of 256 result columns: the kernel's expression, and its value at an index.
-/
module

public import proofs.«01_k».proof.Proof.Decode

@[expose] public section

set_option maxRecDepth 16384

noncomputable section

namespace Cert.Proof

open Idealize.ShloMosaic Cert.KernelIdeal Cert.KernelIdeal.Facts₀

variable {F : FTy → Type} [FloatOps F]

/-- One of the four tables of a block, without its unit axes. -/
def tab (t : Vec F S1x1x32x128 .i8) : IVec S32x128 8 := shapeCast S32x128 t shapeCasts_S1x1x32x128_S32x128

/-- The block of running sums with the products of the grid point's columns of x and the decoded weights added. -/
def blockSum (x : Vec F S8x1024 .bf16) (w : Fin 32 → Vec F S32x128 .i8) (t : Fin 4 → Vec F S1x1x32x128 .i8) (acc : Vec F S8x256 .f32) :
    FVec F S8x256 .f32 :=
  addf (shapeCast S8x256 acc shapeCasts_S8x256_S8x256)
    (matmul dot_S8x1024_S1024x256_S8x256_1_0_0_1_n_n none (shapeCast S8x1024 x shapeCasts_S8x1024_S8x1024)
      (concatenate S1024x256 1 [⟨S1024x128, colsOf (F := F) (tab (t 0)) (tab (t 1)) fun i => loCodes (w i)⟩,
        ⟨S1024x128, colsOf (F := F) (tab (t 2)) (tab (t 3)) fun i => hiCodes (w i)⟩] concatenates_S1024x128_S1024x128_S1024x256_d1)
      (constant S8x256 .f32 0x00000000#32))

/-- The four bits of a packed byte that are the code of the even (`p = 0`) or the odd output row. -/
def nibble (p : Fin 2) (b : BitVec 8) : Fin 16 := if p = 0 then ⟨b.toNat % 16, Nat.mod_lt _ (by decide)⟩ else ⟨b.toNat / 16, by have := b.isLt; omega⟩

theorem row32_lo (b : BitVec 8) : row32 (b &&& 15#8) = (nibble 0 b).castLE (by decide) := by
  apply Fin.ext
  show (b &&& 15#8).toNat % 32 = b.toNat % 16
  rw [BitVec.toNat_and, show (15#8 : BitVec 8).toNat = 2 ^ 4 - 1 from rfl, Nat.and_two_pow_sub_one_eq_mod]
  omega

theorem row32_hi (b : BitVec 8) : row32 (b >>> 4) = (nibble 1 b).castLE (by decide) := by
  apply Fin.ext
  show (b >>> 4).toNat % 32 = b.toNat / 16
  rw [BitVec.toNat_ushiftRight, Nat.shiftRight_eq_div_pow]
  have := b.isLt
  omega

theorem tab_apply (t : Vec F S1x1x32x128 .i8) (r : Fin 32) (l : Fin 128) : tab t (ix2 r l) = t (ix4 0 0 r l) := by
  pointwise [tab]

/-- The weight in row `j` and column `128 p + l` of a block. -/
def blockWeight (w : Fin 32 → Vec F S32x128 .i8) (t : Fin 4 → Vec F S1x1x32x128 .i8) (p : Fin 2) (j : Fin 1024) (l : Fin 128) : F .bf16 :=
  let k : Fin 32 := (nibble p (w ⟨j.val / 32, by omega⟩ (ix2 (⟨2 * (j.val % 16) + j.val / 16 % 2, by omega⟩ : Fin 32) l))).castLE (by decide)
  FloatOps.ofBits .bf16 ((t ⟨2 * p.val + 1, by omega⟩ (ix4 0 0 k l) : BitVec 8) ++ (t ⟨2 * p.val, by omega⟩ (ix4 0 0 k l) : BitVec 8))

theorem lo_weight (w : Fin 32 → Vec F S32x128 .i8) (t : Fin 4 → Vec F S1x1x32x128 .i8) (j : Fin 1024) (l : Fin 128) :
    colsOf (F := F) (tab (t 0)) (tab (t 1)) (fun i => loCodes (w i)) (ix2 j l) = blockWeight w t 0 j l := by
  rw [colsOf_apply _ _ _ j l _ rfl, loCodes_apply, row32_lo, tab_apply, tab_apply]
  rfl

theorem hi_weight (w : Fin 32 → Vec F S32x128 .i8) (t : Fin 4 → Vec F S1x1x32x128 .i8) (j : Fin 1024) (l : Fin 128) :
    colsOf (F := F) (tab (t 2)) (tab (t 3)) (fun i => hiCodes (w i)) (ix2 j l) = blockWeight w t 1 j l := by
  rw [colsOf_apply _ _ _ j l _ rfl, hiCodes_apply, row32_hi, tab_apply, tab_apply]
  rfl

/-- A block after one grid point, element by element. -/
theorem blockSum_apply (x : Vec Ideal S8x1024 .bf16) (w : Fin 32 → Vec Ideal S32x128 .i8) (t : Fin 4 → Vec Ideal S1x1x32x128 .i8)
    (acc : Vec Ideal S8x256 .f32) (b : Fin 8) (p : Fin 2) (l : Fin 128) :
    blockSum (F := Ideal) x w t acc (ix2 b ⟨128 * p.val + l.val, by omega⟩)
      = acc (ix2 b ⟨128 * p.val + l.val, by omega⟩) + ∑ j : Fin 1024, x (ix2 b j) * blockWeight w t p j l := by
  have hl := l.isLt
  pointwise [blockSum]
  refine congrArg (acc _ + ·) (Finset.sum_congr rfl fun j _ => congrArg (x (ix2 b j) * ·) ?_)
  match p with
  | ⟨0, _⟩ =>
    rw [dif_pos (by show 128 * 0 + l.val < 128; omega)]
    refine Eq.trans (congrArg (fun c => colsOf (tab (t 0)) (tab (t 1)) (fun i => loCodes (w i)) (ix2 j c)) ?_) (lo_weight w t j l)
    exact Fin.ext (by show 128 * 0 + l.val = l.val; omega)
  | ⟨1, _⟩ =>
    rw [dif_neg (by show ¬ 128 * 1 + l.val < 128; omega)]
    refine Eq.trans (congrArg (fun c => colsOf (tab (t 2)) (tab (t 3)) (fun i => hiCodes (w i)) (ix2 j c)) ?_) (hi_weight w t j l)
    exact Fin.ext (by show 128 * 1 + l.val - 128 = l.val; omega)

end Cert.Proof

end
-- ==== Proof.Reference.lean ====
/-
  Hand-written. The reference, element by element: the table entry that a code selects, the two products, and their interleaving.
-/
module

public import proofs.«01_k».proof.Proof.Block
public import proofs.«01_k».proof.Proof.Gen.ReferenceIdeal
public import proofs.«01_k».proof.Proof.Gen.ReferenceIdeal.Run

@[expose] public section

set_option maxRecDepth 16384

noncomputable section

namespace Cert.Proof.Ref

open Idealize.ShloMosaic Idealize.ShloMosaic.TcCoe Cert.ReferenceIdeal Cert.ReferenceIdeal.Facts₀

variable {F : FTy → Type} [FloatOps F]

/-- Whether bit `b` of a code is set. -/
def bit (c : IVec S14336x2048 32) (b : BitVec 32) : IVec S14336x2048 1 :=
  cmpi .eq (andi (Host.shrsi c (broadcastInDim S14336x2048 ![] bcast_S_S14336x2048 (constantI S_ 32 b)))
    (broadcastInDim S14336x2048 ![] bcast_S_S14336x2048 (constantI S_ 32 1#32))) (broadcastInDim S14336x2048 ![] bcast_S_S14336x2048 (constantI S_ 32 1#32))

/-- Entry `k` of each row of the table, over all rows of the packed weights. -/
def column (T : FVec F S2048x16 .bf16) (k : Nat) (h : S2048x16.Slices ![0, k] S2048x1) : FVec F S14336x2048 .bf16 :=
  broadcastInDim S14336x2048 ![0, 1] bcast_S1x2048_S14336x2048_0_1 (broadcastInDim S1x2048 ![1] bcast_S2048_S1x2048_1
    (shapeCast S2048 (extractStridedSlice S2048x1 ![0, k] T h) shapeCasts_S2048x1_S2048))

/-- The selection of a table entry by the four bits of its code. -/
def decode (c : IVec S14336x2048 32) (T : FVec F S2048x16 .bf16) : FVec F S14336x2048 .bf16 :=
  select (bit c 3#32)
    (select (bit c 2#32)
      (select (bit c 1#32)
        (select (bit c 0#32) (column T 15 slices_S2048x16_S2048x1_0_15) (column T 14 slices_S2048x16_S2048x1_0_14))
        (select (bit c 0#32) (column T 13 slices_S2048x16_S2048x1_0_13) (column T 12 slices_S2048x16_S2048x1_0_12)))
      (select (bit c 1#32)
        (select (bit c 0#32) (column T 11 slices_S2048x16_S2048x1_0_11) (column T 10 slices_S2048x16_S2048x1_0_10))
        (select (bit c 0#32) (column T 9 slices_S2048x16_S2048x1_0_9) (column T 8 slices_S2048x16_S2048x1_0_8))))
    (select (bit c 2#32)
      (select (bit c 1#32)
        (select (bit c 0#32) (column T 7 slices_S2048x16_S2048x1_0_7) (column T 6 slices_S2048x16_S2048x1_0_6))
        (select (bit c 0#32) (column T 5 slices_S2048x16_S2048x1_0_5) (column T 4 slices_S2048x16_S2048x1_0_4)))
      (select (bit c 1#32)
        (select (bit c 0#32) (column T 3 slices_S2048x16_S2048x1_0_3) (column T 2 slices_S2048x16_S2048x1_0_2))
        (select (bit c 0#32) (column T 1 slices_S2048x16_S2048x1_0_1) (column T 0 slices_S2048x16_S2048x1_0_0))))

theorem v94_eq (V : Valuation τ sig (Elt F)) : Value.res_main_v94 V = decode (Value.res_main_v3 V) (Value.res_main_v7 V) := rfl

theorem v182_eq (V : Valuation τ sig (Elt F)) : Value.res_main_v182 V = decode (Value.res_main_v6 V) (Value.res_main_v95 V) := rfl

theorem column_apply (T : FVec F S2048x16 .bf16) (k : Nat) (hk : k < 16) (h : S2048x16.Slices ![0, k] S2048x1) (r : Fin 14336) (m : Fin 2048) :
    column T k h (ix2 r m) = T (ix2 m ⟨k, hk⟩) := by
  pointwise [column]

theorem bit_apply (c : IVec S14336x2048 32) (b : BitVec 32) (r : Fin 14336) (m : Fin 2048) :
    bit c b (ix2 r m) = IntOp.cmpi .eq (IntOp.andi (IntOp.shrsi .host (c (ix2 r m)) b) 1#32) 1#32 := by
  pointwise [bit]

theorem decode_apply (c : IVec S14336x2048 32) (T : FVec F S2048x16 .bf16) (r : Fin 14336) (m : Fin 2048) (k : Fin 16) (h : c (ix2 r m) = BitVec.ofNat 32 k.val) :
    decode c T (ix2 r m) = T (ix2 m k) := by
  pointwise [decode]
  simp only [bit_apply, h, column_apply _ _ (by decide : 0 < 16), column_apply _ 1 (by decide), column_apply _ 2 (by decide), column_apply _ 3 (by decide),
    column_apply _ 4 (by decide), column_apply _ 5 (by decide), column_apply _ 6 (by decide), column_apply _ 7 (by decide), column_apply _ 8 (by decide),
    column_apply _ 9 (by decide), column_apply _ 10 (by decide), column_apply _ 11 (by decide), column_apply _ 12 (by decide), column_apply _ 13 (by decide),
    column_apply _ 14 (by decide), column_apply _ 15 (by decide)]
  fin_cases k <;> rfl

theorem code_lo : ∀ b : BitVec 8, IntOp.andi (b.setWidth 32) 15#32 = BitVec.ofNat 32 (nibble 0 b).val := by decide +kernel

theorem code_hi : ∀ b : BitVec 8, IntOp.shrsi .host (b.setWidth 32) 4#32 = BitVec.ofNat 32 (nibble 1 b).val := by decide +kernel

theorem v3_apply (V : Valuation τ sig (Elt F)) (r : Fin 14336) (m : Fin 2048) :
    Value.res_main_v3 V (ix2 r m) = BitVec.ofNat 32 (nibble 0 (V (Proc.devRef .tc main_arg1) (ix2 r m))).val := by
  pointwise [Value.res_main_v3]
  exact code_lo _

theorem v6_apply (V : Valuation τ sig (Elt F)) (r : Fin 14336) (m : Fin 2048) :
    Value.res_main_v6 V (ix2 r m) = BitVec.ofNat 32 (nibble 1 (V (Proc.devRef .tc main_arg1) (ix2 r m))).val := by
  pointwise [Value.res_main_v6]
  exact code_hi _

theorem v7_apply (V : Valuation τ sig (Elt F)) (m : Fin 2048) (k : Fin 16) :
    Value.res_main_v7 V (ix2 m k) = FloatOps.ofBits .bf16 (V (Proc.devRef .tc main_arg2) (ix2 (⟨2 * m.val, by omega⟩ : Fin 4096) k) : BitVec 16) := by
  pointwise [Value.res_main_v7, Value.res_main_v0]

theorem v95_apply (V : Valuation τ sig (Elt F)) (m : Fin 2048) (k : Fin 16) :
    Value.res_main_v95 V (ix2 m k) = FloatOps.ofBits .bf16 (V (Proc.devRef .tc main_arg2) (ix2 (⟨2 * m.val + 1, by omega⟩ : Fin 4096) k) : BitVec 16) := by
  pointwise [Value.res_main_v95, Value.res_main_v0]
  exact congrArg (fun r => FloatOps.ofBits .bf16 (V (Proc.devRef .tc main_arg2) (ix2 r k) : BitVec 16)) (Fin.ext (Nat.add_comm _ _))

/-- The reference's result from x and the two decoded weight matrices. -/
def result (x : FVec F S8x1x14336 .bf16) (u v : FVec F S14336x2048 .bf16) : FVec F S8x1x4096 .bf16 :=
  truncf .bf16 (shapeCast S8x1x4096 (concatenate S8x1x2048x2 3
    [⟨S8x1x2048x1, broadcastInDim S8x1x2048x1 ![0, 1, 2] bcast_S8x1x2048_S8x1x2048x1_0_1_2
        (Host.dotGeneral dot_S8x1x14336_S14336x2048_S8x1x2048_2_0_01_1_n_n none x u)⟩,
      ⟨S8x1x2048x1, broadcastInDim S8x1x2048x1 ![0, 1, 2] bcast_S8x1x2048_S8x1x2048x1_0_1_2
        (Host.dotGeneral dot_S8x1x14336_S14336x2048_S8x1x2048_2_0_01_1_n_n none x v)⟩]
    concatenates_S8x1x2048x1_S8x1x2048x1_S8x1x2048x2_d3) shapeCasts_S8x1x2048x2_S8x1x4096) bitsLt_bf16_f32

theorem result_even (x : FVec Ideal S8x1x14336 .bf16) (u v : FVec Ideal S14336x2048 .bf16) (b : Fin 8) (m : Fin 2048) :
    result x u v (ix3 b 0 ⟨2 * m.val, by omega⟩) = (∑ k : Fin 14336, (x (ix3 b 0 k) : EReal) * u (ix2 k m) : EReal) := by
  pointwise [result]
  exact dif_pos (by omega)

theorem result_odd (x : FVec Ideal S8x1x14336 .bf16) (u v : FVec Ideal S14336x2048 .bf16) (b : Fin 8) (m : Fin 2048) :
    result x u v (ix3 b 0 ⟨2 * m.val + 1, by omega⟩) = (∑ k : Fin 14336, (x (ix3 b 0 k) : EReal) * v (ix2 k m) : EReal) := by
  pointwise [result]
  exact dif_neg (by omega)

end Cert.Proof.Ref

end
-- ==== Proof.Pieces.lean ====
/-
  Hand-written. What the body of one grid point leaves in the array of running sums: sixteen stores, each a block of 256 columns.
-/
module

public import proofs.«01_k».proof.Proof.Gen.KernelIdeal.Frame
public import proofs.«01_k».proof.Proof.Block
public import Idealize.ShloMosaic.Lib.Pipeline.ValueKit
public import Idealize.ShloMosaic.Lib.WholeRead

@[expose] public section

set_option maxRecDepth 16384

noncomputable section

namespace Cert.Proof
open Idealize.ShloMosaic Idealize.ShloMosaic.Tactic Cert.KernelIdeal Cert.KernelIdeal.Gen Cert.KernelIdeal.Facts₀
variable {F : FTy → Type} [FloatOps F]

theorem acc_inb (n : Fin 16) (a : Fin 2) : (![0, 256 * n.val] : Fin 2 → ℕ) a + S8x256.size a ≤ S8x4096.size a :=
  match a with
  | ⟨0, _⟩ => by show 0 + 8 ≤ 8; omega
  | ⟨1, _⟩ => by show 256 * n.val + 256 ≤ 4096; omega

theorem w_inb (n : Fin 16) (i : Fin 32) (a : Fin 2) : (![32 * i.val, 128 * n.val] : Fin 2 → ℕ) a + S32x128.size a ≤ S1024x2048.size a :=
  match a with
  | ⟨0, _⟩ => by show 32 * i.val + 32 ≤ 1024; omega
  | ⟨1, _⟩ => by show 128 * n.val + 128 ≤ 2048; omega

theorem t_inb (n : Fin 16) (q : Fin 4) (a : Fin 4) : (![n.val, q.val, 0, 0] : Fin 4 → ℕ) a + S1x1x32x128.size a ≤ S16x4x32x128.size a :=
  match a with
  | ⟨0, _⟩ => by show n.val + 1 ≤ 16; omega
  | ⟨1, _⟩ => by show q.val + 1 ≤ 4; omega
  | ⟨2, _⟩ => by show 0 + 32 ≤ 32; omega
  | ⟨3, _⟩ => by show 0 + 128 ≤ 128; omega

/-- The 256 result columns of block `n`. -/
@[reducible] def accRect (n : Fin 16) : Rect S8x4096 := Rect.unit (s := S8x4096) ![0, 256 * n.val] S8x256.size (acc_inb n)

variable (arg1 : Memref sig .tc .vmem S8x1024 .bf16) (harg1 : arg1.IsWhole) (arg2 : Memref sig .tc .vmem S1024x2048 .i8) (harg2 : arg2.IsWhole) (arg3 : Memref sig .tc .vmem S16x4x32x128 .i8) (harg3 : arg3.IsWhole) (arg4 : Memref sig .tc .vmem S8x4096 .f32) (harg4 : arg4.IsWhole)
  (x0 : Vec F S8x1024 .bf16) (x1 : Vec F S1024x2048 .i8) (x2 : Vec F S16x4x32x128 .i8) (xo3 : Vec F S8x4096 .f32)

/-- What the body stores in block `n` over running sums `acc`, from the values it loads. -/
def stored (n : Fin 16) (acc : Vec F S8x256 .f32) : FVec F S8x256 .f32 :=
  blockSum (View.readAt (Elt F) arg1.view (Rect.unit (s := S8x1024) ![0, 0] S8x1024.size Cert.KernelIdeal.Facts₀.inb_S8x1024_S8x1024_0_0).toLoadRect (harg1.unread x0))
    (fun i => View.readAt (Elt F) arg2.view (Rect.unit (s := S1024x2048) ![32 * i.val, 128 * n.val] S32x128.size (w_inb n i)).toLoadRect (harg2.unread x1))
    (fun q => View.readAt (Elt F) arg3.view (Rect.unit (s := S16x4x32x128) ![n.val, q.val, 0, 0] S1x1x32x128.size (t_inb n q)).toLoadRect (harg3.unread x2)) acc

/-- The stores of the first `n` blocks over sums `acc`, the last first, over earlier stores `base`. -/
def pieces (acc : Fin 16 → Vec F S8x256 .f32) (base : List (View.Piece (Elt F) S8x4096 .f32)) : (n : ℕ) → n ≤ 16 → List (View.Piece (Elt F) S8x4096 .f32)
  | 0, _ => base
  | n + 1, h => ⟨accRect ⟨n, h⟩, stored arg1 harg1 arg2 harg2 arg3 harg3 x0 x1 x2 ⟨n, h⟩ (acc ⟨n, h⟩)⟩ :: pieces acc base n (Nat.le_of_succ_le h)

/-- A column of block `m` after the stores of the first `n` blocks: the stored value when `m` is among them. -/
theorem canon_pieces (acc : Fin 16 → Vec F S8x256 .f32) (base : List (View.Piece (Elt F) S8x4096 .f32)) (m : Fin 16) (b : Fin 8) (r : Fin 256) :
    ∀ (n : ℕ) (h : n ≤ 16), View.canon (pieces arg1 harg1 arg2 harg2 arg3 harg3 x0 x1 x2 acc base n h) (ix2 b (⟨256 * m.val + r.val, by omega⟩ : Fin 4096))
      = if m.val < n then stored arg1 harg1 arg2 harg2 arg3 harg3 x0 x1 x2 m (acc m) (ix2 b r)
        else View.canon base (ix2 b (⟨256 * m.val + r.val, by omega⟩ : Fin 4096)) := by
  intro n
  induction n with
  | zero => intro h; rw [if_neg (Nat.not_lt_zero _)]; rfl
  | succ n ih =>
    intro h
    rw [pieces]
    by_cases hm : m.val = n
    · obtain rfl : m = ⟨n, h⟩ := Fin.ext hm
      rw [if_pos (Nat.lt_succ_self _)]
      have e : (ix2 b (⟨256 * n + r.val, by omega⟩ : Fin 4096) : S8x4096.Idx) = (accRect ⟨n, h⟩).emb (ix2 b r) := by
        funext a
        apply Fin.ext
        match a with
        | ⟨0, _⟩ => show b.val = 0 + 1 * b.val; omega
        | ⟨1, _⟩ => show 256 * n + r.val = 256 * n + 1 * r.val; omega
      show View.canon _ (ix2 b (⟨256 * n + r.val, by omega⟩ : Fin 4096) : S8x4096.Idx) = _
      rw [e, View.canon_cons_emb]
    · rw [View.canon_cons_of_not_mem]
      · rw [ih]
        by_cases h1 : m.val < n
        · rw [if_pos h1, if_pos (by omega)]
        · rw [if_neg h1, if_neg (by omega)]
      · intro hy
        have := (Rect.mem_set_unit (inb := acc_inb ⟨n, h⟩)).mp hy ⟨1, by decide⟩
        have h1 : 256 * n ≤ 256 * m.val + r.val := this.1
        have h2 : 256 * m.val + r.val < 256 * n + 256 := this.2
        have := r.isLt
        omega

/-- A grid point that adds to what the array held stores the sixteen blocks over what it reads there. -/
theorem pieces_B (c : Dev nD) (i : grid0.Coords) (hc0 : ¬cond0_0 i) :
    (kernelRun0_B c i arg1 harg1 arg2 harg2 arg3 harg3 arg4 harg4 hc0 x0 x1 x2 xo3).1
      = pieces arg1 harg1 arg2 harg2 arg3 harg3 x0 x1 x2 (fun n => View.readAt (Elt F) arg4.view (accRect n).toLoadRect (harg4.unread xo3)) [] 16 le_rfl := by
  sl_kernel_rfl

/-- The store of zeros over the whole array. -/
def zeros : View.Piece (Elt F) S8x4096 .f32 :=
  ⟨Rect.unit (s := S8x4096) ![0, 0] S8x4096.size Cert.KernelIdeal.Facts₀.inb_S8x4096_S8x4096_0_0, constant S8x4096 .f32 0x00000000#32⟩

/-- The stores of the grid point that starts from zeros, as the body makes them: each block over what it reads after the stores before. -/
def piecesA : (n : ℕ) → n ≤ 16 → List (View.Piece (Elt F) S8x4096 .f32)
  | 0, _ => [zeros]
  | n + 1, h => ⟨accRect ⟨n, h⟩, stored arg1 harg1 arg2 harg2 arg3 harg3 x0 x1 x2 ⟨n, h⟩
      (arg4.view.readCov (piecesA n (Nat.le_of_succ_le h)) (accRect ⟨n, h⟩).toLoadRect)⟩ :: piecesA n (Nat.le_of_succ_le h)

theorem run_A (c : Dev nD) (i : grid0.Coords) (hc0 : cond0_0 i) :
    (kernelRun0_A c i arg1 harg1 arg2 harg2 arg3 harg3 arg4 harg4 hc0 x0 x1 x2).1
      = piecesA arg1 harg1 arg2 harg2 arg3 harg3 arg4 x0 x1 x2 16 le_rfl := by sl_kernel_rfl

theorem canon_zeros (y : S8x4096.Idx) : View.canon [zeros (F := F)] y = FloatOps.ofBits .f32 0x00000000#32 := by
  unfold zeros
  rw [View.canon_unit_zero (by funext a; match a with | ⟨0, _⟩ => rfl | ⟨1, _⟩ => rfl)]
  rfl

/-- What it reads is zero. -/
theorem piecesA_eq : ∀ (n : ℕ) (h : n ≤ 16), piecesA arg1 harg1 arg2 harg2 arg3 harg3 arg4 x0 x1 x2 n h
    = pieces arg1 harg1 arg2 harg2 arg3 harg3 x0 x1 x2 (fun _ => constant S8x256 .f32 0x00000000#32) [zeros] n h := by
  intro n
  induction n with
  | zero => intro h; rfl
  | succ n ih =>
    intro h
    rw [piecesA, pieces, ih]
    congr 3
    rw [View.readCov_eq_canon']
    funext j
    have hj : (accRect ⟨n, h⟩).toLoadRect.idx j = ix2 (⟨(j 0).val, (j 0).isLt⟩ : Fin 8) (⟨256 * n + (j 1).val, by have : (j 1).val < 256 := (j 1).isLt; omega⟩ : Fin 4096) := by
      funext a
      apply Fin.ext
      match a with
      | ⟨0, _⟩ => show 0 + 1 * (j 0).val = (j 0).val; omega
      | ⟨1, _⟩ => show 256 * n + 1 * (j 1).val = 256 * n + (j 1).val; omega
    rw [hj]
    refine (canon_pieces arg1 harg1 arg2 harg2 arg3 harg3 x0 x1 x2 _ _ ⟨n, h⟩ _ ⟨(j 1).val, (j 1).isLt⟩ n _).trans ?_
    rw [if_neg (Nat.lt_irrefl _), canon_zeros]
    rfl

end Cert.Proof

end
-- ==== Proof.Points.lean ====
/-
  Hand-written. The array of running sums after one grid point, element by element.
-/
module

public import proofs.«01_k».proof.Proof.Pieces

@[expose] public section

set_option maxRecDepth 16384

noncomputable section

namespace Cert.Proof

open Idealize.ShloMosaic Idealize.ShloMosaic.Tactic Cert.KernelIdeal Cert.KernelIdeal.Gen Cert.KernelIdeal.Facts₀

variable {F : FTy → Type} [FloatOps F]

/-- The packed row that row `j` of a grid point's weights decodes. -/
def srcRow (j : Fin 1024) : Fin 1024 := ⟨32 * (j.val / 32) + (2 * (j.val % 16) + j.val / 16 % 2), by omega⟩

/-- The weight that column `l` of half `p` of block `n` decodes from packed row `r`. -/
def weightAt (x1 : Vec F S1024x2048 .i8) (x2 : Vec F S16x4x32x128 .i8) (n : Fin 16) (p : Fin 2) (r : Fin 1024) (l : Fin 128) : F .bf16 :=
  let k : Fin 32 := (nibble p (x1 (ix2 r (⟨128 * n.val + l.val, by omega⟩ : Fin 2048)))).castLE (by decide)
  FloatOps.ofBits .bf16 ((x2 (ix4 n (⟨2 * p.val + 1, by omega⟩ : Fin 4) k l) : BitVec 8) ++ (x2 (ix4 n (⟨2 * p.val, by omega⟩ : Fin 4) k l) : BitVec 8))

theorem blockWeight_eq (w : Fin 32 → Vec F S32x128 .i8) (t : Fin 4 → Vec F S1x1x32x128 .i8) (p : Fin 2) (j : Fin 1024) (l : Fin 128)
    {b : BitVec 8} (T : Fin 4 → Fin 32 → BitVec 8) (hw : w ⟨j.val / 32, by omega⟩ (ix2 (⟨2 * (j.val % 16) + j.val / 16 % 2, by omega⟩ : Fin 32) l) = b)
    (ht : ∀ q k, t q (ix4 0 0 k l) = T q k) :
    blockWeight w t p j l = FloatOps.ofBits .bf16 (T ⟨2 * p.val + 1, by omega⟩ ((nibble p b).castLE (by decide)) ++ T ⟨2 * p.val, by omega⟩ ((nibble p b).castLE (by decide))) := by
  subst hw
  rw [← ht, ← ht]
  rfl

/-- What one grid point adds to one running sum. -/
def pointSum (x0 : Vec Ideal S8x1024 .bf16) (x1 : Vec Ideal S1024x2048 .i8) (x2 : Vec Ideal S16x4x32x128 .i8) (n : Fin 16) (b : Fin 8) (p : Fin 2) (l : Fin 128) : EReal :=
  ∑ j : Fin 1024, (x0 (ix2 b j) : EReal) * weightAt (F := Ideal) x1 x2 n p (srcRow j) l

/-- The column of the array of running sums that belongs to block `n`, half `p` and column `l`. -/
def col (n : Fin 16) (p : Fin 2) (l : Fin 128) : Fin 4096 := ⟨256 * n.val + (128 * p.val + l.val), by omega⟩

variable (arg1 : Memref sig .tc .vmem S8x1024 .bf16) (harg1 : arg1.IsWhole) (arg2 : Memref sig .tc .vmem S1024x2048 .i8) (harg2 : arg2.IsWhole) (arg3 : Memref sig .tc .vmem S16x4x32x128 .i8) (harg3 : arg3.IsWhole) (arg4 : Memref sig .tc .vmem S8x4096 .f32) (harg4 : arg4.IsWhole)
  (x0 : Vec Ideal S8x1024 .bf16) (x1 : Vec Ideal S1024x2048 .i8) (x2 : Vec Ideal S16x4x32x128 .i8) (xo3 : Vec Ideal S8x4096 .f32)

theorem stored_apply (n : Fin 16) (acc : Vec Ideal S8x256 .f32) (b : Fin 8) (p : Fin 2) (l : Fin 128) :
    stored arg1 harg1 arg2 harg2 arg3 harg3 x0 x1 x2 n acc (ix2 b ⟨128 * p.val + l.val, by omega⟩)
      = acc (ix2 b ⟨128 * p.val + l.val, by omega⟩) + pointSum x0 x1 x2 n b p l := by
  unfold stored
  rw [blockSum_apply]
  refine congrArg (acc _ + ·) (Finset.sum_congr rfl fun j _ => ?_)
  have hw : ∀ (i : Fin 32) (r : Fin 32), View.readAt (Elt Ideal) arg2.view (Rect.unit (s := S1024x2048) ![32 * i.val, 128 * n.val] S32x128.size (w_inb n i)).toLoadRect (harg2.unread x1) (ix2 r l)
      = x1 (ix2 (⟨32 * i.val + r.val, by omega⟩ : Fin 1024) (⟨128 * n.val + l.val, by omega⟩ : Fin 2048)) := fun i r => by
    refine (harg2.readAt_unread _ _ _).trans (congrArg x1 ?_)
    funext a
    apply Fin.ext
    match a with
    | ⟨0, _⟩ => show 32 * i.val + 1 * r.val = 32 * i.val + r.val; omega
    | ⟨1, _⟩ => show 128 * n.val + 1 * l.val = 128 * n.val + l.val; omega
  have ht : ∀ (q : Fin 4) (k : Fin 32), View.readAt (Elt Ideal) arg3.view (Rect.unit (s := S16x4x32x128) ![n.val, q.val, 0, 0] S1x1x32x128.size (t_inb n q)).toLoadRect (harg3.unread x2) (ix4 0 0 k l)
      = x2 (ix4 n q k l) := fun q k => by
    refine (harg3.readAt_unread _ _ _).trans (congrArg x2 ?_)
    funext a
    apply Fin.ext
    match a with
    | ⟨0, _⟩ => show n.val + 1 * 0 = n.val; omega
    | ⟨1, _⟩ => show q.val + 1 * 0 = q.val; omega
    | ⟨2, _⟩ => show 0 + 1 * k.val = k.val; omega
    | ⟨3, _⟩ => show 0 + 1 * l.val = l.val; omega
  refine congrArg₂ (fun (u v : EReal) => u * v) ?_ ?_
  · refine (harg1.readAt_unread _ _ _).trans (congrArg x0 ?_)
    funext a
    apply Fin.ext
    match a with
    | ⟨0, _⟩ => show 0 + 1 * b.val = b.val; omega
    | ⟨1, _⟩ => show 0 + 1 * j.val = j.val; omega
  · exact blockWeight_eq _ _ p j l (fun q k => x2 (ix4 n q k l)) (hw _ _) ht

/-- A grid point that adds to what the array held. -/
theorem out_B (c : Dev nD) (i : grid0.Coords) (hc0 : ¬cond0_0 i) (b : Fin 8) (n : Fin 16) (p : Fin 2) (l : Fin 128) :
    out0_B_3 c i arg1 harg1 arg2 harg2 arg3 harg3 arg4 harg4 hc0 x0 x1 x2 xo3 (ix2 b (col n p l))
      = xo3 (ix2 b (col n p l)) + pointSum x0 x1 x2 n b p l := by
  unfold out0_B_3
  rw [View.read_writes_junk_eq_canon, pieces_B]
  refine (canon_pieces arg1 harg1 arg2 harg2 arg3 harg3 x0 x1 x2 _ _ n b ⟨128 * p.val + l.val, by omega⟩ 16 _).trans ?_
  rw [if_pos n.isLt, stored_apply]
  refine congrArg (· + _) ((harg4.readAt_unread _ _ _).trans (congrArg xo3 ?_))
  funext a
  apply Fin.ext
  match a with
  | ⟨0, _⟩ => show 0 + 1 * b.val = b.val; omega
  | ⟨1, _⟩ => show 256 * n.val + 1 * (128 * p.val + l.val) = 256 * n.val + (128 * p.val + l.val); omega

/-- The grid point that starts from zeros. -/
theorem out_A (c : Dev nD) (i : grid0.Coords) (hc0 : cond0_0 i) (b : Fin 8) (n : Fin 16) (p : Fin 2) (l : Fin 128) :
    out0_A_3 c i arg1 harg1 arg2 harg2 arg3 harg3 arg4 harg4 hc0 x0 x1 x2 (ix2 b (col n p l)) = pointSum x0 x1 x2 n b p l := by
  unfold out0_A_3
  rw [View.read_writes_junk_eq_canon, run_A, piecesA_eq]
  refine (canon_pieces arg1 harg1 arg2 harg2 arg3 harg3 x0 x1 x2 _ _ n b ⟨128 * p.val + l.val, by omega⟩ 16 _).trans ?_
  rw [if_pos n.isLt, stored_apply]
  refine Eq.trans (congrArg (· + _) ?_) (zero_add _)
  pointwise []

end Cert.Proof

end
-- ==== Proof.Array.lean ====
/-
  Hand-written. The array of running sums after the fourteen grid points.
-/
module

public import proofs.«01_k».proof.Proof.Points

@[expose] public section

set_option maxRecDepth 16384

noncomputable section

namespace Cert.Proof

open Idealize.ShloMosaic Idealize.ShloMosaic.Tactic Idealize.ShloMosaic.TcCoe Cert.KernelIdeal Cert.KernelIdeal.Gen Cert.KernelIdeal.Facts₀

variable (m : (ℓ : Loc nD τ sig) → Buf (Elt Ideal) ℓ)

/-- The array ends as the last grid point leaves it. -/
theorem arr_eq (c : Dev nD) : (dats m 0 c).arrAt 3 cfg0.N = outsAt0 m c t0_13.val t0_13.isLt := by
  refine (dats m 0 c).arrAt_eq_of_after_last 3 t0_13 (by decide +kernel) _ fun j => ?_
  blk_simp
  rw [after0_3]

/-- Each running sum adds up over the grid points. -/
theorem sums_apply (c : Dev nD) (b : Fin 8) (n : Fin 16) (p : Fin 2) (l : Fin 128) :
    outsAt0 m c t0_13.val t0_13.isLt (ix2 b (col n p l))
      = ∑ t : Fin cfg0.N, pointSum (iblk m c 0 t) (iblk m c 1 t) (iblk m c 2 t) n b p l := by
  have h := Pipeline.eq_sum_fin_of_reset_step_apply_last (M := EReal)
    (fun n h (i : Fin 8 × Fin 16 × Fin 2 × Fin 128) => outsAt0 m c n h (ix2 i.1 (col i.2.1 i.2.2.1 i.2.2.2))) 14 (fun _ => 0)
    (fun t i => pointSum (iblk m c 0 t) (iblk m c 1 t) (iblk m c 2 t) i.2.1 i.1 i.2.2.1 i.2.2.2)
    (fun t h i => by
      rw [outsAt0_A m c t h, zero_add]
      exact out_A _ _ _ _ _ _ _ _ _ _ _ _ _ _ _ _ _ _)
    (fun t h i => by
      rw [outsAt0_B m c t h]
      exact out_B _ _ _ _ _ _ _ _ _ _ _ _ _ _ _ _ _ _ _)
    (le_of_eq N_0) t0_13 rfl (b, n, p, l)
  rw [zero_add] at h
  exact h

end Cert.Proof

end
-- ==== Proof.Host.lean ====
/-
  Hand-written. The arrays that the host operations before the kernel make, element by element: x with its columns reordered,
  and the four byte tables of each block.
-/
module

public import proofs.«01_k».proof.Proof.Array

@[expose] public section

set_option maxRecDepth 16384

noncomputable section

namespace Cert.Proof

open Idealize.ShloMosaic Idealize.ShloMosaic.Tactic Idealize.ShloMosaic.TcCoe Cert.KernelIdeal Cert.KernelIdeal.Facts₀

/-- The array x with the columns of each group of 32 reordered. -/
def xOf (x : Vec Ideal S8x1x14336 .bf16) : Vec Ideal S8x14336 .bf16 :=
  shapeCast S8x14336 (transpose S8x448x2x8x2 [0, 1, 4, 2, 3] (shapeCast S8x448x8x2x2 x shapeCasts_S8x1x14336_S8x448x8x2x2)
    transposes_S8x448x8x2x2_S8x448x2x8x2_0_1_4_2_3) shapeCasts_S8x448x2x8x2_S8x14336

/-- The words of the table, one row of columns per block, half and code. -/
def wordsOf (w : Vec Ideal S4096x16 .i16) : IVec S16x2x16x128 32 :=
  extui 32 (transpose S16x2x16x128 [0, 2, 3, 1] (shapeCast S16x128x2x16 (w : IVec S4096x16 16) shapeCasts_S4096x16_S16x128x2x16)
    transposes_S16x128x2x16_S16x2x16x128_0_2_3_1) natLt_16_32

/-- The low bytes of the words and the high bytes. -/
def bytesOf (w : Vec Ideal S4096x16 .i16) : IVec S16x2x2x16x128 8 :=
  trunci 8 (concatenate S16x2x2x16x128 2
    [⟨S16x2x1x16x128, broadcastInDim S16x2x1x16x128 ![0, 1, 3, 4] bcast_S16x2x16x128_S16x2x1x16x128_0_1_3_4
        (andi (wordsOf w) (broadcastInDim S16x2x16x128 ![] bcast_S_S16x2x16x128 (constantI S_ 32 255#32)))⟩,
      ⟨S16x2x1x16x128, broadcastInDim S16x2x1x16x128 ![0, 1, 3, 4] bcast_S16x2x16x128_S16x2x1x16x128_0_1_3_4
        (Host.shrui (wordsOf w) (broadcastInDim S16x2x16x128 ![] bcast_S_S16x2x16x128 (constantI S_ 32 8#32)))⟩]
    concatenates_S16x2x1x16x128_S16x2x1x16x128_S16x2x2x16x128_d2) natLt_8_32

/-- The four byte tables of each block, every row twice. -/
def tabsOf (w : Vec Ideal S4096x16 .i16) : Vec Ideal S16x4x32x128 .i8 :=
  shapeCast S16x4x32x128 (concatenate S16x2x2x32x128 3 [⟨S16x2x2x16x128, bytesOf w⟩, ⟨S16x2x2x16x128, bytesOf w⟩]
    concatenates_S16x2x2x16x128_S16x2x2x16x128_S16x2x2x32x128_d3) shapeCasts_S16x2x2x32x128_S16x4x32x128

variable (m : (ℓ : Loc nD τ sig) → Buf (Elt Ideal) ℓ)

theorem V_main_v2 (c : Dev nD) : Gen.V m c main_v2 = xOf (m ((c : Thread nD τ).loc main_arg0)) := by
  show StableHlo.after Gen.hostOps0 (fun b => m (c, b)) (Proc.devRef .tc main_v2) = _
  unfold Gen.hostOps0
  after_results
  rfl

theorem V_main_v16 (c : Dev nD) : Gen.V m c main_v16 = tabsOf (m ((c : Thread nD τ).loc main_arg2)) := by
  show StableHlo.after Gen.hostOps0 (fun b => m (c, b)) (Proc.devRef .tc main_v16) = _
  unfold Gen.hostOps0
  after_results
  rfl

theorem xOf_apply (x : Vec Ideal S8x1x14336 .bf16) (b : Fin 8) (t : Fin 14) (j : Fin 1024) :
    xOf x (ix2 b ⟨1024 * t.val + j.val, by omega⟩) = x (ix3 b 0 ⟨1024 * t.val + (srcRow j).val, by omega⟩) := by
  pointwise [xOf]
  exact congrArg (fun r => x (ix3 b 0 r)) (Fin.ext (by simp only [srcRow]; omega))

theorem wordsOf_apply (w : Vec Ideal S4096x16 .i16) (n : Fin 16) (p : Fin 2) (k : Fin 16) (l : Fin 128) :
    wordsOf w (ix4 n p k l) = (w (ix2 (⟨256 * n.val + 2 * l.val + p.val, by omega⟩ : Fin 4096) k) : BitVec 16).setWidth 32 := by
  pointwise [wordsOf]
  exact congrArg (fun r => (w (ix2 r k) : BitVec 16).setWidth 32) (Fin.ext (by show n.val * 256 + l.val * 2 + p.val = 256 * n.val + 2 * l.val + p.val; omega))

theorem bytesOf_lo (w : Vec Ideal S4096x16 .i16) (n : Fin 16) (p : Fin 2) (k : Fin 16) (l : Fin 128) :
    bytesOf w (ix5 n p 0 k l) = (wordsOf w (ix4 n p k l) &&& 255#32).setWidth 8 := by
  pointwise [bytesOf]
  rfl

theorem bytesOf_hi (w : Vec Ideal S4096x16 .i16) (n : Fin 16) (p : Fin 2) (k : Fin 16) (l : Fin 128) :
    bytesOf w (ix5 n p 1 k l) = (wordsOf w (ix4 n p k l) >>> 8).setWidth 8 := by
  pointwise [bytesOf]
  rfl

theorem tabsOf_apply (w : Vec Ideal S4096x16 .i16) (n : Fin 16) (p q : Fin 2) (k : Fin 16) (l : Fin 128) :
    tabsOf w (ix4 n (⟨2 * p.val + q.val, by omega⟩ : Fin 4) (k.castLE (by decide) : Fin 32) l) = bytesOf w (ix5 n p q k l) := by
  pointwise [tabsOf]
  rw [dif_pos (by exact k.isLt)]
  rfl

/-- The two bytes of a word of 16 bits, joined again. -/
theorem join_bytes (v : BitVec 16) : ((v.setWidth 32 >>> 8).setWidth 8 : BitVec 8) ++ ((v.setWidth 32 &&& 255#32).setWidth 8 : BitVec 8) = v := by
  apply BitVec.eq_of_getLsbD_eq
  intro i hi
  rw [BitVec.getLsbD_append, BitVec.getLsbD_setWidth, BitVec.getLsbD_setWidth, BitVec.getLsbD_and, BitVec.getLsbD_ushiftRight, BitVec.getLsbD_setWidth, BitVec.getLsbD_setWidth]
  by_cases h : i < 8
  · have h255 : (255#32 : BitVec 32).getLsbD i = true := by interval_cases i <;> rfl
    simp [h, h255, hi, show i < 32 by omega]
  · have e : 8 + (i - 8) = i := by omega
    simp [h, e, show i < 32 by omega, show i - 8 < 8 by omega]

/-- The weight at a packed byte is the entry of the table that the byte's code picks. -/
theorem weightAt_tabsOf (x1 : Vec Ideal S1024x2048 .i8) (w : Vec Ideal S4096x16 .i16) (n : Fin 16) (p : Fin 2) (r : Fin 1024) (l : Fin 128) :
    weightAt (F := Ideal) x1 (tabsOf w) n p r l
      = FloatOps.ofBits .bf16 (w (ix2 (⟨256 * n.val + 2 * l.val + p.val, by omega⟩ : Fin 4096)
          (nibble p (x1 (ix2 r (⟨128 * n.val + l.val, by omega⟩ : Fin 2048))))) : BitVec 16) := by
  unfold weightAt
  refine congrArg (FloatOps.ofBits .bf16) ?_
  refine (congrArg₂ (fun (u v : BitVec 8) => u ++ v)
    ((tabsOf_apply w n p 1 _ l).trans ((bytesOf_hi w n p _ l).trans (by rw [wordsOf_apply])))
    ((tabsOf_apply w n p 0 _ l).trans ((bytesOf_lo w n p _ l).trans (by rw [wordsOf_apply])))).trans ?_
  exact join_bytes _

end Cert.Proof

end
-- ==== Proof.Sums.lean ====
/-
  Hand-written. The array of running sums at the end, in terms of the three arguments: each element is one full sum of products.
-/
module

public import proofs.«01_k».proof.Proof.Host

@[expose] public section

set_option maxRecDepth 16384

noncomputable section

namespace Cert.Proof

open Idealize.ShloMosaic Idealize.ShloMosaic.Tactic Idealize.ShloMosaic.TcCoe Cert.KernelIdeal Cert.KernelIdeal.Gen

/-- One product of the result: x at `k` times the weight of row `2 m + p` at `k`. -/
def product (x : Vec Ideal S8x1x14336 .bf16) (wp : Vec Ideal S14336x2048 .i8) (w : Vec Ideal S4096x16 .i16) (b : Fin 8) (m : Fin 2048) (p : Fin 2)
    (k : Fin 14336) : EReal :=
  (x (ix3 b 0 k) : EReal) * (FloatOps.ofBits .bf16 (w (ix2 (⟨2 * m.val + p.val, by omega⟩ : Fin 4096) (nibble p (wp (ix2 k m)))) : BitVec 16) : Ideal .bf16)

theorem srcRow_bijective : Function.Bijective srcRow := by
  refine Finite.injective_iff_bijective.mp fun a b h => Fin.ext ?_
  have h' : 32 * (a.val / 32) + (2 * (a.val % 16) + a.val / 16 % 2) = 32 * (b.val / 32) + (2 * (b.val % 16) + b.val / 16 % 2) := congrArg Fin.val h
  omega

/-- Summing the grid points, each over its rows in the order in which it decodes them, sums over all rows. -/
theorem sum_rows (f : Fin 14336 → EReal) :
    ∑ t : Fin 14, ∑ j : Fin 1024, f ⟨1024 * t.val + (srcRow j).val, by omega⟩ = ∑ k : Fin 14336, f k := by
  have inner : ∀ t : Fin 14, ∑ j : Fin 1024, f ⟨1024 * t.val + (srcRow j).val, by omega⟩ = ∑ j : Fin 1024, f ⟨1024 * t.val + j.val, by omega⟩ := fun t =>
    Function.Bijective.sum_comp srcRow_bijective (fun j : Fin 1024 => f ⟨1024 * t.val + j.val, by omega⟩)
  rw [Finset.sum_congr rfl fun t _ => inner t, ← Finset.sum_product', Finset.univ_product_univ]
  refine Fintype.sum_equiv (finProdFinEquiv (m := 14) (n := 1024)) _ _ fun q => congrArg f (Fin.ext ?_)
  show 1024 * q.1.val + q.2.val = q.2.val + 1024 * q.1.val
  omega

variable (m : (ℓ : Loc nD τ sig) → Buf (Elt Ideal) ℓ)

theorem iblk0_apply (c : Dev nD) (t : Fin cfg0.N) (b : Fin 8) (j : Fin 1024) (h : 1024 * t.val + j.val < 14336) :
    iblk m c 0 t (ix2 b j) = V m c main_v2 (ix2 b ⟨1024 * t.val + j.val, h⟩) := by
  have idx : ∀ t : Fin cfg0.N, win0_0.index t = ![0, t.val] := by decide +kernel
  blk_ext [iblk, idx t]

theorem iblk1_apply (c : Dev nD) (t : Fin cfg0.N) (r : Fin 1024) (q : Fin 2048) (h : 1024 * t.val + r.val < 14336) :
    iblk m c 1 t (ix2 r q) = V m c main_arg1 (ix2 ⟨1024 * t.val + r.val, h⟩ q) := by
  have idx : ∀ t : Fin cfg0.N, win0_1.index t = ![t.val, 0] := by decide +kernel
  blk_ext [iblk, idx t]

theorem iblk2_eq (c : Dev nD) (t : Fin cfg0.N) : iblk m c 2 t = V m c main_v16 := by
  have idx : ∀ t : Fin cfg0.N, win0_2.index t = ![0, 0, 0, 0] := by decide +kernel
  funext (i : S16x4x32x128.Idx)
  show iblk m c 2 t i = V m c main_v16 i
  blk_ext [iblk, idx t]

/-- What one grid point adds, in terms of the arguments. -/
theorem pointSum_iblk (c : Dev nD) (t : Fin cfg0.N) (ht : t.val < 14) (n : Fin 16) (b : Fin 8) (p : Fin 2) (l : Fin 128) :
    pointSum (iblk m c 0 t) (iblk m c 1 t) (iblk m c 2 t) n b p l
      = ∑ j : Fin 1024, product (m ((c : Thread nD τ).loc main_arg0)) (m ((c : Thread nD τ).loc main_arg1)) (m ((c : Thread nD τ).loc main_arg2))
          b ⟨128 * n.val + l.val, by omega⟩ p ⟨1024 * t.val + (srcRow j).val, by omega⟩ := by
  unfold pointSum product
  refine Finset.sum_congr rfl fun j _ => congrArg₂ (fun (u v : EReal) => u * v) ?_ ?_
  · refine (iblk0_apply m c t b j (by omega)).trans ?_
    rw [Cert.Proof.V_main_v2]
    exact xOf_apply _ b ⟨t.val, ht⟩ j
  · rw [iblk2_eq, Cert.Proof.V_main_v16, weightAt_tabsOf, iblk1_apply m c t _ _ (by omega), V_main_arg1]
    refine congrArg (fun r => (FloatOps.ofBits .bf16 (m ((c : Thread nD τ).loc main_arg2) (ix2 r _) : BitVec 16) : Ideal .bf16)) (Fin.ext ?_)
    show 256 * n.val + 2 * l.val + p.val = 2 * (128 * n.val + l.val) + p.val
    omega

theorem sum_points (c : Dev nD) (b : Fin 8) (n : Fin 16) (p : Fin 2) (l : Fin 128) :
    ∑ t : Fin cfg0.N, pointSum (iblk m c 0 t) (iblk m c 1 t) (iblk m c 2 t) n b p l
      = ∑ k : Fin 14336, product (m ((c : Thread nD τ).loc main_arg0)) (m ((c : Thread nD τ).loc main_arg1)) (m ((c : Thread nD τ).loc main_arg2))
          b ⟨128 * n.val + l.val, by omega⟩ p k := by
  rw [← sum_rows]
  exact Fintype.sum_equiv (finCongr N_0) _ _ fun t => pointSum_iblk m c t (N_0 ▸ t.isLt) n b p l

/-- The array of running sums after the last grid point. -/
theorem arr_apply (c : Dev nD) (b : Fin 8) (n : Fin 16) (p : Fin 2) (l : Fin 128) :
    (dats m 0 c).arrAt 3 cfg0.N (ix2 b (col n p l))
      = (∑ k : Fin 14336, product (m ((c : Thread nD τ).loc main_arg0)) (m ((c : Thread nD τ).loc main_arg1)) (m ((c : Thread nD τ).loc main_arg2))
          b ⟨128 * n.val + l.val, by omega⟩ p k : EReal) :=
  (congrFun (arr_eq m c) _).trans ((sums_apply m c b n p l).trans (sum_points m c b n p l))

end Cert.Proof

end
-- ==== Proof.Result.lean ====
/-
  Hand-written. The kernel's result, element by element, after the host operations that follow the kernel.
-/
module

public import proofs.«01_k».proof.Proof.Sums

@[expose] public section

set_option maxRecDepth 16384

noncomputable section

namespace Cert.Proof

open Idealize.ShloMosaic Idealize.ShloMosaic.Tactic Idealize.ShloMosaic.TcCoe Cert.KernelIdeal Cert.KernelIdeal.Facts₀

/-- The array of running sums with its columns in the order of the result. -/
def yOf (a : Vec Ideal S8x4096 .f32) : Vec Ideal S8x1x4096 .bf16 :=
  truncf (F := Ideal) .bf16 (shapeCast S8x1x4096 (transpose S8x1x16x128x2 [0, 1, 2, 4, 3] (shapeCast S8x1x16x2x128 (a : FVec Ideal S8x4096 .f32) shapeCasts_S8x4096_S8x1x16x2x128)
    transposes_S8x1x16x2x128_S8x1x16x128x2_0_1_2_4_3) shapeCasts_S8x1x16x128x2_S8x1x4096) bitsLt_bf16_f32

theorem yOf_apply (a : Vec Ideal S8x4096 .f32) (b : Fin 8) (n : Fin 16) (p : Fin 2) (l : Fin 128) :
    yOf a (ix3 b 0 ⟨2 * (128 * n.val + l.val) + p.val, by omega⟩) = a (ix2 b (col n p l)) := by
  pointwise [yOf]
  exact congrArg (fun r => a (ix2 b r)) (Fin.ext (by show n.val * 256 + p.val * 128 + l.val = 256 * n.val + (128 * p.val + l.val); omega))

variable (m : (ℓ : Loc nD τ sig) → Buf (Elt Ideal) ℓ)

theorem tail_eq (c : Dev nD) :
    Pipeline.afterTail₀ cfgs (Gen.dats m) 0 (Gen.V0 m) [Gen.hostOps1] c main_v21 = yOf ((Gen.dats m 0 c).arrAt 3 cfg0.N) := by
  show StableHlo.after Gen.hostOps1 (Pipeline.withArrays spec0 c (Gen.V0 m c) fun w => (Gen.dats m 0 c).arrAt w cfg0.N) (Proc.devRef .tc main_v21) = _
  rw [← Pipeline.withArrays_arr spec0 (by decide) c (Gen.V0 m c) (fun w => (Gen.dats m 0 c).arrAt w cfg0.N) 3]
  unfold Gen.hostOps1
  after_results
  rfl

/-- What both programs compute: row `b` and column `q` of the result is the sum of its products. -/
def answer (x : Vec Ideal S8x1x14336 .bf16) (wp : Vec Ideal S14336x2048 .i8) (w : Vec Ideal S4096x16 .i16) : Vec Ideal S8x1x4096 .bf16 := fun i =>
  let b : Fin 8 := i 0
  let q : Fin 4096 := i 2
  (∑ k : Fin 14336, product x wp w b ⟨q.val / 2, by omega⟩ ⟨q.val % 2, by omega⟩ k : EReal)

theorem answer_apply (x : Vec Ideal S8x1x14336 .bf16) (wp : Vec Ideal S14336x2048 .i8) (w : Vec Ideal S4096x16 .i16) (b : Fin 8) (m : Fin 2048) (p : Fin 2) :
    answer x wp w (ix3 b 0 ⟨2 * m.val + p.val, by omega⟩) = (∑ k : Fin 14336, product x wp w b m p k : EReal) := by
  have hm : (⟨(2 * m.val + p.val) / 2, by omega⟩ : Fin 2048) = m := Fin.ext (by show (2 * m.val + p.val) / 2 = m.val; omega)
  have hp : (⟨(2 * m.val + p.val) % 2, by omega⟩ : Fin 2) = p := Fin.ext (by show (2 * m.val + p.val) % 2 = p.val; omega)
  show (∑ k : Fin 14336, product x wp w b ⟨(2 * m.val + p.val) / 2, _⟩ ⟨(2 * m.val + p.val) % 2, _⟩ k : EReal) = _
  rw [hm, hp]

theorem result_eq (c : Dev nD) :
    yOf ((Gen.dats m 0 c).arrAt 3 cfg0.N)
      = answer (m ((c : Thread nD τ).loc main_arg0)) (m ((c : Thread nD τ).loc main_arg1)) (m ((c : Thread nD τ).loc main_arg2)) := by
  funext (i : S8x1x4096.Idx)
  idx_vars i
  obtain rfl : i1 = 0 := Subsingleton.elim _ _
  obtain ⟨n, l, p, rfl⟩ : ∃ (n : Fin 16) (l : Fin 128) (p : Fin 2), i2 = ⟨2 * (128 * n.val + l.val) + p.val, by omega⟩ :=
    ⟨⟨i2.val / 256, by omega⟩, ⟨i2.val / 2 % 128, by omega⟩, ⟨i2.val % 2, by omega⟩,
      Fin.ext (by show i2.val = 2 * (128 * (i2.val / 256) + i2.val / 2 % 128) + i2.val % 2; omega)⟩
  exact (yOf_apply _ i0 n p l).trans ((arr_apply m c i0 n p l).trans (answer_apply _ _ _ i0 ⟨128 * n.val + l.val, by omega⟩ p).symm)

/-- The kernel's run ends with the answer, and with its arguments as they were. -/
theorem kernel_run (ρ : Dev nD → PrngReg) :
    θ_run (defs (F := Ideal)) (onTc (τ := τ) (main (F := Ideal))) ⟨m, fun _ => 0, ρ⟩ (fun r => ∀ c : Dev nD,
      r.2.mem ((c : Thread nD τ).loc main_v21)
          = answer (m ((c : Thread nD τ).loc main_arg0)) (m ((c : Thread nD τ).loc main_arg1)) (m ((c : Thread nD τ).loc main_arg2))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) :=
  (θ_run defs _ _).mono (fun _ h c =>
    ⟨((h c).2 main_v21 (Pipeline.mem_restRefs_of main_v21 (by decide) (by decide))).trans ((tail_eq m c).trans (result_eq m c)),
      ((h c).2 main_arg0 (Pipeline.mem_restRefs_of main_arg0 (by decide) (by decide))).trans (Gen.W_main_arg0 m (Gen.dats m) c),
      ((h c).1 1).trans (((Gen.dats m 0 c).arrAt_in 1 rfl _).trans ((Gen.A_eq m c 1).trans (Gen.V_main_arg1 m c))),
      ((h c).2 main_arg2 (Pipeline.mem_restRefs_of main_arg2 (by decide) (by decide))).trans (Gen.W_main_arg2 m (Gen.dats m) c)⟩) (Gen.run_main m ρ)

end Cert.Proof

end
-- ==== Proof.Equation.lean ====
/-
  Hand-written. The reference's result is the answer that the kernel computes; both runs end with it.
-/
module

public import proofs.«01_k».proof.Defs
public import proofs.«01_k».proof.Proof.Reference
public import proofs.«01_k».proof.Proof.Result

@[expose] public section

set_option maxRecDepth 16384

noncomputable section

namespace Cert.Proof

open Idealize.ShloMosaic Idealize.ShloMosaic.TcCoe Cert.ReferenceIdeal

theorem reference_eq (V : Valuation τ sig (Elt Ideal)) :
    Ref.result (F := Ideal) (V (Proc.devRef .tc main_arg0)) (Value.res_main_v94 V) (Value.res_main_v182 V)
      = answer (V (Proc.devRef .tc main_arg0)) (V (Proc.devRef .tc main_arg1)) (V (Proc.devRef .tc main_arg2)) := by
  funext (i : S8x1x4096.Idx)
  idx_vars i
  obtain rfl : i1 = 0 := Subsingleton.elim _ _
  obtain ⟨m, p, rfl⟩ : ∃ (m : Fin 2048) (p : Fin 2), i2 = ⟨2 * m.val + p.val, by omega⟩ :=
    ⟨⟨i2.val / 2, by omega⟩, ⟨i2.val % 2, by omega⟩, Fin.ext (by show i2.val = 2 * (i2.val / 2) + i2.val % 2; omega)⟩
  refine Eq.trans ?_ (answer_apply _ _ _ i0 m p).symm
  match p with
  | ⟨0, _⟩ =>
    refine (Ref.result_even _ _ _ i0 m).trans (Finset.sum_congr rfl fun k _ => congrArg (fun (u : EReal) => _ * u) ?_)
    rw [Ref.v94_eq, Ref.decode_apply _ _ k m _ (Ref.v3_apply V k m), Ref.v7_apply]
    rfl
  | ⟨1, _⟩ =>
    refine (Ref.result_odd _ _ _ i0 m).trans (Finset.sum_congr rfl fun k _ => congrArg (fun (u : EReal) => _ * u) ?_)
    rw [Ref.v182_eq, Ref.decode_apply _ _ k m _ (Ref.v6_apply V k m), Ref.v95_apply]
    rfl

/-- The reference's run ends with the answer, and with its arguments as they were. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c : Thread nD τ).loc main_v189)
          = answer (m ((c : Thread nD τ).loc main_arg0)) (m ((c : Thread nD τ).loc main_arg1)) (m ((c : Thread nD τ).loc main_arg2))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) :=
  (θ_run defs _ _).mono (fun _ h c => ⟨(h c).1.trans (reference_eq (StableHlo.launchContents m c)), (h c).2⟩) (Value.run (F := Ideal) m ρ)

theorem algebraic : @Cert.algebraic_KernelIdeal_ReferenceIdeal Cert.KernelIdeal.Gen.facts Cert.ReferenceIdeal.Gen.facts := by
  intro m g m' g' _ hm
  refine ⟨fun c => answer (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), kernel_run m g, ?_⟩
  refine (θ_run defs _ _).mono (fun _ h c => ⟨(h c).1.trans ?_, (h c).2⟩) (reference_run m' g')
  rw [(hm c).1, (hm c).2.1, (hm c).2.2]

end Cert.Proof

end
-- ==== Proof.lean ====
/-
  Hand-written. The claim assembled: the three programs run to their end and keep their arguments, the ideal kernel is the
  kernel over the extended reals, and the ideal kernel and the ideal reference end with the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs to its end, leaves its arguments, and has no semaphore to leave off zero. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
